-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv100" .f32 0x3C23D70A#32 ((1 / 100 : ℝ) : EReal)
  ∧ IdealRules.named_const.Statement Cert.KernelIdeal.κ "inv99" .f32 0x3C257EB5#32 ((1 / 99 : ℝ) : EReal)
  ∧ IdealRules.named_const.Statement Cert.KernelIdeal.κ "inv90" .f32 0x3C360B61#32 ((1 / 90 : ℝ) : EReal)

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proper : Cert.Pre_proper.Facts),
    quiescent_Kernel (hKernel := hKernel)
    ∧ quiescent_KernelIdeal (hKernelIdeal := hKernelIdeal)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_proper.lean ====
abbrev S64x2048 : Shape := ⟨2, ![64, 2048]⟩
abbrev S100x2048 : Shape := ⟨2, ![100, 2048]⟩
abbrev S32768x2048 : Shape := ⟨2, ![32768, 2048]⟩
abbrev S4x2048 : Shape := ⟨2, ![4, 2048]⟩
abbrev S10 : Shape := ⟨1, ![10]⟩
abbrev S36x2048 : Shape := ⟨2, ![36, 2048]⟩
abbrev S_ : Shape := ⟨0, ![]⟩
abbrev S10x1 : Shape := ⟨2, ![10, 1]⟩
abbrev S10x2048 : Shape := ⟨2, ![10, 2048]⟩

class Facts : Prop where
  slices_S100x2048_S36x2048_64_0 : S100x2048.Slices ![64, 0] S36x2048
  concatenates_S64x2048_S36x2048_S100x2048_d0 : Shape.Concatenates [S64x2048, S36x2048] S100x2048 0
  bcast_S_S10 : S_.BroadcastsInDim S10 (![] : Fin 0 → Fin S10.rank)
  reducesTo_S10_S_d0 : S10.ReducesTo [0] S_
  h_S_ : 0 < S_.numel
  bcast_S10_S10x1_0 : S10.BroadcastsInDim S10x1 (![0] : Fin 1 → Fin S10x1.rank)
  bcast_S_S10x2048 : S_.BroadcastsInDim S10x2048 (![] : Fin 0 → Fin S10x2048.rank)
  reducesTo_S10x2048_S_d0_1 : S10x2048.ReducesTo [0, 1] S_
  gather_S100x2048_S10x1_S10x2048_1_0_n_n_0_1_12048_wf : GatherDims.WF S100x2048 S10x1 S10x2048 [1] [0] [] [0] [] 1 ![1, 2048]

variable [Facts]

def gather_S100x2048_S10x1_S10x2048_1_0_n_n_0_1_12048 : GatherDims S100x2048 S10x1 S10x2048 where
  offsetDims := [1]
  collapsedSliceDims := [0]
  operandBatchingDims := []
  startIndicesBatchingDims := []
  startIndexMap := [0]
  indexVectorDim := 1
  sliceSizes := ![1, 2048]
  wf := gather_S100x2048_S10x1_S10x2048_1_0_n_n_0_1_12048_wf
def fn_part1 {F : FTy → Type} [FloatOps F] (main_v7 : IVec S_ 1) (main_v17 : IVec S10x2048 1) : IVec S_ 1 :=
  let main_c_4 : IVec S_ 1 := constantI S_ 1 1#1
  let main_v18 : IVec S_ 1 := (fun x v => Host.reduce IntOp.andi x v reducesTo_S10x2048_S_d0_1 h_S_) main_v17 main_c_4
  let main_v19 : IVec S_ 1 := andi main_v7 main_v18
  main_v19

def fn {F : FTy → Type} [FloatOps F] (main_arg0 : FVec F S64x2048 .f32) (main_arg1 : FVec F S100x2048 .f32) (main_arg2 : FVec F S32768x2048 .f32) (main_arg3 : IVec S4x2048 1) (main_arg4 : IVec S10 32) : IVec S_ 1 :=
  let main_v0 : FVec F S36x2048 .f32 := (extractStridedSlice S36x2048 ![64, 0] · slices_S100x2048_S36x2048_64_0) main_arg1
  let main_v1 : FVec F S100x2048 .f32 := (fun a b => concatenate S100x2048 0 [⟨S64x2048, a⟩, ⟨S36x2048, b⟩] concatenates_S64x2048_S36x2048_S100x2048_d0) main_arg0 main_v0
  let main_c : IVec S_ 32 := constantI S_ 32 0#32
  let main_v2 : IVec S10 32 := broadcastInDim S10 ![] bcast_S_S10 main_c
  let main_v3 : IVec S10 1 := cmpi .sge main_arg4 main_v2
  let main_c_0 : IVec S_ 32 := constantI S_ 32 100#32
  let main_v4 : IVec S10 32 := broadcastInDim S10 ![] bcast_S_S10 main_c_0
  let main_v5 : IVec S10 1 := cmpi .slt main_arg4 main_v4
  let main_v6 : IVec S10 1 := andi main_v3 main_v5
  let main_c_1 : IVec S_ 1 := constantI S_ 1 1#1
  let main_v7 : IVec S_ 1 := (fun x v => Host.reduce IntOp.andi x v reducesTo_S10_S_d0 h_S_) main_v6 main_c_1
  let main_c_2 : IVec S_ 32 := constantI S_ 32 0#32
  let main_v8 : IVec S10 32 := broadcastInDim S10 ![] bcast_S_S10 main_c_2
  let main_v9 : IVec S10 1 := cmpi .slt main_arg4 main_v8
  let main_c_3 : IVec S_ 32 := constantI S_ 32 100#32
  let main_v10 : IVec S10 32 := broadcastInDim S10 ![] bcast_S_S10 main_c_3
  let main_v11 : IVec S10 32 := addi main_arg4 main_v10
  let main_v12 : IVec S10 32 := select main_v9 main_v11 main_arg4
  let main_v13 : IVec S10x1 32 := broadcastInDim S10x1 ![0] bcast_S10_S10x1_0 main_v12
  let main_v14 : FVec F S10x2048 .f32 := (fun x i => Host.gather gather_S100x2048_S10x1_S10x2048_1_0_n_n_0_1_12048 x i) main_v1 main_v13
  let main_v15 : FVec F S10x2048 .f32 := Host.absf main_v14
  let main_cst : FVec F S_ .f32 := constant S_ .f32 0x7F800000#32
  let main_v16 : FVec F S10x2048 .f32 := broadcastInDim S10x2048 ![] bcast_S_S10x2048 main_cst
  let main_v17 : IVec S10x2048 1 := cmpf .olt main_v15 main_v16
  fn_part1 (F := F) main_v7 main_v17
-- ==== Kernel.lean ====
abbrev S64x2048 : Shape := ⟨2, ![64, 2048]⟩
abbrev S100x2048 : Shape := ⟨2, ![100, 2048]⟩
abbrev S32768x2048 : Shape := ⟨2, ![32768, 2048]⟩
abbrev S4x2048 : Shape := ⟨2, ![4, 2048]⟩
abbrev S10 : Shape := ⟨1, ![10]⟩
abbrev S8x32768 : Shape := ⟨2, ![8, 32768]⟩
abbrev S1x9 : Shape := ⟨2, ![1, 9]⟩
abbrev S9 : Shape := ⟨1, ![9]⟩
abbrev S1024x2048 : Shape := ⟨2, ![1024, 2048]⟩
abbrev S8x1024 : Shape := ⟨2, ![8, 1024]⟩
abbrev S4 : Shape := ⟨1, ![4]⟩
abbrev S4x1 : Shape := ⟨2, ![4, 1]⟩
abbrev S8x2048 : Shape := ⟨2, ![8, 2048]⟩
abbrev S36x2048 : Shape := ⟨2, ![36, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S16x1 : Shape := ⟨2, ![16, 1]⟩
abbrev S16x100 : Shape := ⟨2, ![16, 100]⟩
abbrev S16x2048 : Shape := ⟨2, ![16, 2048]⟩
abbrev S16x16 : Shape := ⟨2, ![16, 16]⟩
abbrev S16 : Shape := ⟨1, ![16]⟩
abbrev S1x16 : Shape := ⟨2, ![1, 16]⟩
abbrev S8 : Shape := ⟨1, ![8]⟩
abbrev S8x1 : Shape := ⟨2, ![8, 1]⟩
abbrev S10x1 : Shape := ⟨2, ![10, 1]⟩
abbrev S1x32768 : Shape := ⟨2, ![1, 32768]⟩
abbrev S10x32768 : Shape := ⟨2, ![10, 32768]⟩
abbrev S40x32768 : Shape := ⟨2, ![40, 32768]⟩
abbrev S40x40 : Shape := ⟨2, ![40, 40]⟩
abbrev S10x10 : Shape := ⟨2, ![10, 10]⟩
abbrev S1x10 : Shape := ⟨2, ![1, 10]⟩

abbrev nBuf : Space → Nat
  | .hbm => 9
  | .vmem => 9
  | .smem => 1
  | _ => 0

abbrev bufTy : (tb : Table) → Fin (tcTables nBuf tb) → BufTy
  | .hbm, ⟨0, _⟩ => ⟨S64x2048, .f32⟩
  | .hbm, ⟨1, _⟩ => ⟨S100x2048, .f32⟩
  | .hbm, ⟨2, _⟩ => ⟨S32768x2048, .f32⟩
  | .hbm, ⟨3, _⟩ => ⟨S4x2048, .i1⟩
  | .hbm, ⟨4, _⟩ => ⟨S10, .i32⟩
  | .hbm, ⟨5, _⟩ => ⟨S4x2048, .i32⟩
  | .hbm, ⟨6, _⟩ => ⟨S8x32768, .f32⟩
  | .hbm, ⟨7, _⟩ => ⟨S1x9, .f32⟩
  | .hbm, ⟨8, _⟩ => ⟨S9, .f32⟩
  | .local _ .vmem, ⟨0, _⟩ => ⟨S4x2048, .i32⟩
  | .local _ .vmem, ⟨1, _⟩ => ⟨S1024x2048, .f32⟩
  | .local _ .vmem, ⟨2, _⟩ => ⟨S1024x2048, .f32⟩
  | .local _ .vmem, ⟨3, _⟩ => ⟨S8x1024, .f32⟩
  | .local _ .vmem, ⟨4, _⟩ => ⟨S8x1024, .f32⟩
  | .local _ .vmem, ⟨5, _⟩ => ⟨S8x32768, .f32⟩
  | .local _ .vmem, ⟨6, _⟩ => ⟨S64x2048, .f32⟩
  | .local _ .vmem, ⟨7, _⟩ => ⟨S100x2048, .f32⟩
  | .local _ .vmem, ⟨8, _⟩ => ⟨S1x9, .f32⟩
  | .local _ .smem, ⟨0, _⟩ => ⟨S10, .i32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .smem S10 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x32768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S100x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x9 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "inv100" => some ((1 / 100 : ℝ) : EReal)
  | "inv90" => some ((1 / 90 : ℝ) : EReal)
  | "inv99" => some ((1 / 99 : ℝ) : EReal)
  | _ => none
-- ==== ReferenceIdeal.lean ====
abbrev S64x2048 : Shape := ⟨2, ![64, 2048]⟩
abbrev S100x2048 : Shape := ⟨2, ![100, 2048]⟩
abbrev S32768x2048 : Shape := ⟨2, ![32768, 2048]⟩
abbrev S4x2048 : Shape := ⟨2, ![4, 2048]⟩
abbrev S10 : Shape := ⟨1, ![10]⟩
abbrev S36x2048 : Shape := ⟨2, ![36, 2048]⟩
abbrev S_ : Shape := ⟨0, ![]⟩
abbrev S2048 : Shape := ⟨1, ![2048]⟩
abbrev S1x2048 : Shape := ⟨2, ![1, 2048]⟩
abbrev S10x1 : Shape := ⟨2, ![10, 1]⟩
abbrev S10x2048 : Shape := ⟨2, ![10, 2048]⟩
abbrev S10x1x2048 : Shape := ⟨3, ![10, 1, 2048]⟩
abbrev S1x10x2048 : Shape := ⟨3, ![1, 10, 2048]⟩
abbrev S10x10x2048 : Shape := ⟨3, ![10, 10, 2048]⟩
abbrev S10x10 : Shape := ⟨2, ![10, 10]⟩
abbrev S32768 : Shape := ⟨1, ![32768]⟩
abbrev S100 : Shape := ⟨1, ![100]⟩
abbrev S32768x1 : Shape := ⟨2, ![32768, 1]⟩
abbrev S1x10 : Shape := ⟨2, ![1, 10]⟩
abbrev S1 : Shape := ⟨1, ![1]⟩
abbrev S4 : Shape := ⟨1, ![4]⟩
abbrev S5 : Shape := ⟨1, ![5]⟩
abbrev S9 : Shape := ⟨1, ![9]⟩

abbrev nBuf : Space → Nat
  | .hbm => 558
  | .vmem => 0
  | .smem => 0
  | _ => 0

abbrev hbmTy0_0 (i : Nat) : BufTy := match i % 128 with
  | 0 => ⟨S64x2048, .f32⟩
  | 1 => ⟨S100x2048, .f32⟩
  | 2 => ⟨S32768x2048, .f32⟩
  | 3 => ⟨S4x2048, .i1⟩
  | 4 => ⟨S10, .i32⟩
  | 5 => ⟨S36x2048, .f32⟩
  | 6 => ⟨S100x2048, .f32⟩
  | 7 => ⟨S_, .i32⟩
  | 8 => ⟨S_, .f32⟩
  | 9 => ⟨S2048, .f32⟩
  | 10 => ⟨S1x2048, .f32⟩
  | 11 => ⟨S_, .f32⟩
  | 12 => ⟨S1x2048, .f32⟩
  | 13 => ⟨S1x2048, .f32⟩
  | 14 => ⟨S100x2048, .f32⟩
  | 15 => ⟨S100x2048, .f32⟩
  | 16 => ⟨S100x2048, .f32⟩
  | 17 => ⟨S_, .f32⟩
  | 18 => ⟨S_, .f32⟩
  | 19 => ⟨S_, .f32⟩
  | 20 => ⟨S_, .f32⟩
  | 21 => ⟨S2048, .f32⟩
  | 22 => ⟨S2048, .f32⟩
  | 23 => ⟨S2048, .f32⟩
  | 24 => ⟨S_, .f32⟩
  | 25 => ⟨S_, .i1⟩
  | 26 => ⟨S_, .f32⟩
  | 27 => ⟨S_, .f32⟩
  | 28 => ⟨S2048, .f32⟩
  | 29 => ⟨S2048, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S2048, .f32⟩
  | 38 => ⟨S2048, .f32⟩
  | 39 => ⟨S_, .f32⟩
  | 40 => ⟨S_, .i1⟩
  | 41 => ⟨S2048, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i32⟩
  | 52 => ⟨S10, .i32⟩
  | 53 => ⟨S10, .i1⟩
  | 54 => ⟨S_, .i32⟩
  | 55 => ⟨S10, .i32⟩
  | 56 => ⟨S10, .i32⟩
  | 57 => ⟨S10, .i32⟩
  | 58 => ⟨S10x1, .i32⟩
  | 59 => ⟨S10x2048, .f32⟩
  | 60 => ⟨S10x1x2048, .f32⟩
  | 61 => ⟨S1x10x2048, .f32⟩
  | 62 => ⟨S10x10x2048, .f32⟩
  | 63 => ⟨S10x10x2048, .f32⟩
  | 64 => ⟨S10x10x2048, .f32⟩
  | 65 => ⟨S10x10x2048, .f32⟩
  | 66 => ⟨S_, .f32⟩
  | 67 => ⟨S10x10, .f32⟩
  | 68 => ⟨S_, .f32⟩
  | 69 => ⟨S10x10, .f32⟩
  | 70 => ⟨S10x10, .f32⟩
  | 71 => ⟨S10x10, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1x2048, .i1⟩
  | 79 => ⟨S2048, .i1⟩
  | 80 => ⟨S2048, .f32⟩
  | 81 => ⟨S32768, .f32⟩
  | 82 => ⟨S_, .f32⟩
  | 83 => ⟨S_, .f32⟩
  | 84 => ⟨S32768, .f32⟩
  | 85 => ⟨S32768, .f32⟩
  | 86 => ⟨S_, .f32⟩
  | 87 => ⟨S2048, .f32⟩
  | 88 => ⟨S2048, .f32⟩
  | 89 => ⟨S32768, .f32⟩
  | 90 => ⟨S_, .f32⟩
  | 91 => ⟨S2048, .f32⟩
  | 92 => ⟨S2048, .f32⟩
  | 93 => ⟨S_, .f32⟩
  | 94 => ⟨S_, .f32⟩
  | 95 => ⟨S32768, .f32⟩
  | 96 => ⟨S32768, .f32⟩
  | 97 => ⟨S_, .f32⟩
  | 98 => ⟨S_, .f32⟩
  | 99 => ⟨S32768, .f32⟩
  | 100 => ⟨S32768, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S32768, .f32⟩
  | 109 => ⟨S32768, .f32⟩
  | 110 => ⟨S_, .f32⟩
  | 111 => ⟨S_, .f32⟩
  | 112 => ⟨S32768, .f32⟩
  | 113 => ⟨S32768, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S32768, .f32⟩
  | 122 => ⟨S32768, .f32⟩
  | 123 => ⟨S_, .f32⟩
  | 124 => ⟨S32768, .f32⟩
  | 125 => ⟨S32768, .f32⟩
  | 126 => ⟨S32768, .i32⟩
  | 127 => ⟨S_, .i32⟩
  | _ => ⟨S64x2048, .f32⟩

abbrev hbmTy0_1 (i : Nat) : BufTy := match i % 128 with
  | 0 => ⟨S_, .i32⟩
  | 1 => ⟨S_, .i32⟩
  | 2 => ⟨S32768, .i32⟩
  | 3 => ⟨S32768, .i32⟩
  | 4 => ⟨S_, .i32⟩
  | 5 => ⟨S32768, .i32⟩
  | 6 => ⟨S32768, .i32⟩
  | 7 => ⟨S_, .f32⟩
  | 8 => ⟨S32768, .f32⟩
  | 9 => ⟨S32768, .f32⟩
  | 10 => ⟨S32768, .i32⟩
  | 11 => ⟨S_, .i32⟩
  | 12 => ⟨S_, .i32⟩
  | 13 => ⟨S_, .i32⟩
  | 14 => ⟨S32768, .i32⟩
  | 15 => ⟨S32768, .i32⟩
  | 16 => ⟨S_, .i32⟩
  | 17 => ⟨S32768, .i32⟩
  | 18 => ⟨S32768, .i32⟩
  | 19 => ⟨S_, .i32⟩
  | 20 => ⟨S32768, .i32⟩
  | 21 => ⟨S32768, .i32⟩
  | 22 => ⟨S32768, .i32⟩
  | 23 => ⟨S_, .f32⟩
  | 24 => ⟨S100, .f32⟩
  | 25 => ⟨S_, .i32⟩
  | 26 => ⟨S32768, .i32⟩
  | 27 => ⟨S32768, .i1⟩
  | 28 => ⟨S_, .i32⟩
  | 29 => ⟨S32768, .i32⟩
  | 30 => ⟨S32768, .i32⟩
  | 31 => ⟨S32768, .i32⟩
  | 32 => ⟨S32768x1, .i32⟩
  | 33 => ⟨S_, .f32⟩
  | 34 => ⟨S32768, .f32⟩
  | 35 => ⟨S100, .f32⟩
  | 36 => ⟨S10x10, .f32⟩
  | 37 => ⟨S_, .f32⟩
  | 38 => ⟨S_, .f32⟩
  | 39 => ⟨S_, .f32⟩
  | 40 => ⟨S_, .f32⟩
  | 41 => ⟨S10x10, .f32⟩
  | 42 => ⟨S10x10, .f32⟩
  | 43 => ⟨S_, .f32⟩
  | 44 => ⟨S10, .f32⟩
  | 45 => ⟨S_, .f32⟩
  | 46 => ⟨S10, .f32⟩
  | 47 => ⟨S10x1, .f32⟩
  | 48 => ⟨S1x10, .f32⟩
  | 49 => ⟨S10x10, .f32⟩
  | 50 => ⟨S10x10, .f32⟩
  | 51 => ⟨S10x10, .f32⟩
  | 52 => ⟨S_, .f32⟩
  | 53 => ⟨S10x10, .f32⟩
  | 54 => ⟨S10x10, .f32⟩
  | 55 => ⟨S_, .f32⟩
  | 56 => ⟨S10x10, .f32⟩
  | 57 => ⟨S10x10, .f32⟩
  | 58 => ⟨S10x10, .f32⟩
  | 59 => ⟨S10x10, .f32⟩
  | 60 => ⟨S10x10, .f32⟩
  | 61 => ⟨S_, .f32⟩
  | 62 => ⟨S_, .f32⟩
  | 63 => ⟨S_, .f32⟩
  | 64 => ⟨S_, .f32⟩
  | 65 => ⟨S1x2048, .i1⟩
  | 66 => ⟨S2048, .i1⟩
  | 67 => ⟨S2048, .f32⟩
  | 68 => ⟨S32768, .f32⟩
  | 69 => ⟨S_, .f32⟩
  | 70 => ⟨S_, .f32⟩
  | 71 => ⟨S32768, .f32⟩
  | 72 => ⟨S32768, .f32⟩
  | 73 => ⟨S_, .f32⟩
  | 74 => ⟨S2048, .f32⟩
  | 75 => ⟨S2048, .f32⟩
  | 76 => ⟨S32768, .f32⟩
  | 77 => ⟨S_, .f32⟩
  | 78 => ⟨S2048, .f32⟩
  | 79 => ⟨S2048, .f32⟩
  | 80 => ⟨S_, .f32⟩
  | 81 => ⟨S_, .f32⟩
  | 82 => ⟨S32768, .f32⟩
  | 83 => ⟨S32768, .f32⟩
  | 84 => ⟨S_, .f32⟩
  | 85 => ⟨S_, .f32⟩
  | 86 => ⟨S32768, .f32⟩
  | 87 => ⟨S32768, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S32768, .f32⟩
  | 96 => ⟨S32768, .f32⟩
  | 97 => ⟨S_, .f32⟩
  | 98 => ⟨S_, .f32⟩
  | 99 => ⟨S32768, .f32⟩
  | 100 => ⟨S32768, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S32768, .f32⟩
  | 109 => ⟨S32768, .f32⟩
  | 110 => ⟨S_, .f32⟩
  | 111 => ⟨S32768, .f32⟩
  | 112 => ⟨S32768, .f32⟩
  | 113 => ⟨S32768, .i32⟩
  | 114 => ⟨S_, .i32⟩
  | 115 => ⟨S_, .i32⟩
  | 116 => ⟨S_, .i32⟩
  | 117 => ⟨S32768, .i32⟩
  | 118 => ⟨S32768, .i32⟩
  | 119 => ⟨S_, .i32⟩
  | 120 => ⟨S32768, .i32⟩
  | 121 => ⟨S32768, .i32⟩
  | 122 => ⟨S_, .f32⟩
  | 123 => ⟨S32768, .f32⟩
  | 124 => ⟨S32768, .f32⟩
  | 125 => ⟨S32768, .i32⟩
  | 126 => ⟨S_, .i32⟩
  | 127 => ⟨S_, .i32⟩
  | _ => ⟨S64x2048, .f32⟩

abbrev hbmTy0_2 (i : Nat) : BufTy := match i % 128 with
  | 0 => ⟨S_, .i32⟩
  | 1 => ⟨S32768, .i32⟩
  | 2 => ⟨S32768, .i32⟩
  | 3 => ⟨S_, .i32⟩
  | 4 => ⟨S32768, .i32⟩
  | 5 => ⟨S32768, .i32⟩
  | 6 => ⟨S_, .i32⟩
  | 7 => ⟨S32768, .i32⟩
  | 8 => ⟨S32768, .i32⟩
  | 9 => ⟨S32768, .i32⟩
  | 10 => ⟨S_, .f32⟩
  | 11 => ⟨S100, .f32⟩
  | 12 => ⟨S_, .i32⟩
  | 13 => ⟨S32768, .i32⟩
  | 14 => ⟨S32768, .i1⟩
  | 15 => ⟨S_, .i32⟩
  | 16 => ⟨S32768, .i32⟩
  | 17 => ⟨S32768, .i32⟩
  | 18 => ⟨S32768, .i32⟩
  | 19 => ⟨S32768x1, .i32⟩
  | 20 => ⟨S_, .f32⟩
  | 21 => ⟨S32768, .f32⟩
  | 22 => ⟨S100, .f32⟩
  | 23 => ⟨S10x10, .f32⟩
  | 24 => ⟨S_, .f32⟩
  | 25 => ⟨S_, .f32⟩
  | 26 => ⟨S_, .f32⟩
  | 27 => ⟨S_, .f32⟩
  | 28 => ⟨S10x10, .f32⟩
  | 29 => ⟨S10x10, .f32⟩
  | 30 => ⟨S_, .f32⟩
  | 31 => ⟨S10, .f32⟩
  | 32 => ⟨S_, .f32⟩
  | 33 => ⟨S10, .f32⟩
  | 34 => ⟨S10x1, .f32⟩
  | 35 => ⟨S1x10, .f32⟩
  | 36 => ⟨S10x10, .f32⟩
  | 37 => ⟨S10x10, .f32⟩
  | 38 => ⟨S10x10, .f32⟩
  | 39 => ⟨S_, .f32⟩
  | 40 => ⟨S10x10, .f32⟩
  | 41 => ⟨S10x10, .f32⟩
  | 42 => ⟨S_, .f32⟩
  | 43 => ⟨S10x10, .f32⟩
  | 44 => ⟨S10x10, .f32⟩
  | 45 => ⟨S10x10, .f32⟩
  | 46 => ⟨S10x10, .f32⟩
  | 47 => ⟨S10x10, .f32⟩
  | 48 => ⟨S_, .f32⟩
  | 49 => ⟨S_, .f32⟩
  | 50 => ⟨S_, .f32⟩
  | 51 => ⟨S_, .f32⟩
  | 52 => ⟨S1x2048, .i1⟩
  | 53 => ⟨S2048, .i1⟩
  | 54 => ⟨S2048, .f32⟩
  | 55 => ⟨S32768, .f32⟩
  | 56 => ⟨S_, .f32⟩
  | 57 => ⟨S_, .f32⟩
  | 58 => ⟨S32768, .f32⟩
  | 59 => ⟨S32768, .f32⟩
  | 60 => ⟨S_, .f32⟩
  | 61 => ⟨S2048, .f32⟩
  | 62 => ⟨S2048, .f32⟩
  | 63 => ⟨S32768, .f32⟩
  | 64 => ⟨S_, .f32⟩
  | 65 => ⟨S2048, .f32⟩
  | 66 => ⟨S2048, .f32⟩
  | 67 => ⟨S_, .f32⟩
  | 68 => ⟨S_, .f32⟩
  | 69 => ⟨S32768, .f32⟩
  | 70 => ⟨S32768, .f32⟩
  | 71 => ⟨S_, .f32⟩
  | 72 => ⟨S_, .f32⟩
  | 73 => ⟨S32768, .f32⟩
  | 74 => ⟨S32768, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S32768, .f32⟩
  | 83 => ⟨S32768, .f32⟩
  | 84 => ⟨S_, .f32⟩
  | 85 => ⟨S_, .f32⟩
  | 86 => ⟨S32768, .f32⟩
  | 87 => ⟨S32768, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S32768, .f32⟩
  | 96 => ⟨S32768, .f32⟩
  | 97 => ⟨S_, .f32⟩
  | 98 => ⟨S32768, .f32⟩
  | 99 => ⟨S32768, .f32⟩
  | 100 => ⟨S32768, .i32⟩
  | 101 => ⟨S_, .i32⟩
  | 102 => ⟨S_, .i32⟩
  | 103 => ⟨S_, .i32⟩
  | 104 => ⟨S32768, .i32⟩
  | 105 => ⟨S32768, .i32⟩
  | 106 => ⟨S_, .i32⟩
  | 107 => ⟨S32768, .i32⟩
  | 108 => ⟨S32768, .i32⟩
  | 109 => ⟨S_, .f32⟩
  | 110 => ⟨S32768, .f32⟩
  | 111 => ⟨S32768, .f32⟩
  | 112 => ⟨S32768, .i32⟩
  | 113 => ⟨S_, .i32⟩
  | 114 => ⟨S_, .i32⟩
  | 115 => ⟨S_, .i32⟩
  | 116 => ⟨S32768, .i32⟩
  | 117 => ⟨S32768, .i32⟩
  | 118 => ⟨S_, .i32⟩
  | 119 => ⟨S32768, .i32⟩
  | 120 => ⟨S32768, .i32⟩
  | 121 => ⟨S_, .i32⟩
  | 122 => ⟨S32768, .i32⟩
  | 123 => ⟨S32768, .i32⟩
  | 124 => ⟨S32768, .i32⟩
  | 125 => ⟨S_, .f32⟩
  | 126 => ⟨S100, .f32⟩
  | 127 => ⟨S_, .i32⟩
  | _ => ⟨S64x2048, .f32⟩

abbrev hbmTy0_3 (i : Nat) : BufTy := match i % 128 with
  | 0 => ⟨S32768, .i32⟩
  | 1 => ⟨S32768, .i1⟩
  | 2 => ⟨S_, .i32⟩
  | 3 => ⟨S32768, .i32⟩
  | 4 => ⟨S32768, .i32⟩
  | 5 => ⟨S32768, .i32⟩
  | 6 => ⟨S32768x1, .i32⟩
  | 7 => ⟨S_, .f32⟩
  | 8 => ⟨S32768, .f32⟩
  | 9 => ⟨S100, .f32⟩
  | 10 => ⟨S10x10, .f32⟩
  | 11 => ⟨S_, .f32⟩
  | 12 => ⟨S_, .f32⟩
  | 13 => ⟨S_, .f32⟩
  | 14 => ⟨S_, .f32⟩
  | 15 => ⟨S10x10, .f32⟩
  | 16 => ⟨S10x10, .f32⟩
  | 17 => ⟨S_, .f32⟩
  | 18 => ⟨S10, .f32⟩
  | 19 => ⟨S_, .f32⟩
  | 20 => ⟨S10, .f32⟩
  | 21 => ⟨S10x1, .f32⟩
  | 22 => ⟨S1x10, .f32⟩
  | 23 => ⟨S10x10, .f32⟩
  | 24 => ⟨S10x10, .f32⟩
  | 25 => ⟨S10x10, .f32⟩
  | 26 => ⟨S_, .f32⟩
  | 27 => ⟨S10x10, .f32⟩
  | 28 => ⟨S10x10, .f32⟩
  | 29 => ⟨S_, .f32⟩
  | 30 => ⟨S10x10, .f32⟩
  | 31 => ⟨S10x10, .f32⟩
  | 32 => ⟨S10x10, .f32⟩
  | 33 => ⟨S10x10, .f32⟩
  | 34 => ⟨S10x10, .f32⟩
  | 35 => ⟨S_, .f32⟩
  | 36 => ⟨S_, .f32⟩
  | 37 => ⟨S_, .f32⟩
  | 38 => ⟨S_, .f32⟩
  | 39 => ⟨S1x2048, .i1⟩
  | 40 => ⟨S2048, .i1⟩
  | 41 => ⟨S2048, .f32⟩
  | 42 => ⟨S32768, .f32⟩
  | 43 => ⟨S_, .f32⟩
  | 44 => ⟨S_, .f32⟩
  | 45 => ⟨S32768, .f32⟩
  | 46 => ⟨S32768, .f32⟩
  | 47 => ⟨S_, .f32⟩
  | 48 => ⟨S2048, .f32⟩
  | 49 => ⟨S2048, .f32⟩
  | 50 => ⟨S32768, .f32⟩
  | 51 => ⟨S_, .f32⟩
  | 52 => ⟨S2048, .f32⟩
  | 53 => ⟨S2048, .f32⟩
  | 54 => ⟨S_, .f32⟩
  | 55 => ⟨S_, .f32⟩
  | 56 => ⟨S32768, .f32⟩
  | 57 => ⟨S32768, .f32⟩
  | 58 => ⟨S_, .f32⟩
  | 59 => ⟨S_, .f32⟩
  | 60 => ⟨S32768, .f32⟩
  | 61 => ⟨S32768, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S32768, .f32⟩
  | 70 => ⟨S32768, .f32⟩
  | 71 => ⟨S_, .f32⟩
  | 72 => ⟨S_, .f32⟩
  | 73 => ⟨S32768, .f32⟩
  | 74 => ⟨S32768, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S32768, .f32⟩
  | 83 => ⟨S32768, .f32⟩
  | 84 => ⟨S_, .f32⟩
  | 85 => ⟨S32768, .f32⟩
  | 86 => ⟨S32768, .f32⟩
  | 87 => ⟨S32768, .i32⟩
  | 88 => ⟨S_, .i32⟩
  | 89 => ⟨S_, .i32⟩
  | 90 => ⟨S_, .i32⟩
  | 91 => ⟨S32768, .i32⟩
  | 92 => ⟨S32768, .i32⟩
  | 93 => ⟨S_, .i32⟩
  | 94 => ⟨S32768, .i32⟩
  | 95 => ⟨S32768, .i32⟩
  | 96 => ⟨S_, .f32⟩
  | 97 => ⟨S32768, .f32⟩
  | 98 => ⟨S32768, .f32⟩
  | 99 => ⟨S32768, .i32⟩
  | 100 => ⟨S_, .i32⟩
  | 101 => ⟨S_, .i32⟩
  | 102 => ⟨S_, .i32⟩
  | 103 => ⟨S32768, .i32⟩
  | 104 => ⟨S32768, .i32⟩
  | 105 => ⟨S_, .i32⟩
  | 106 => ⟨S32768, .i32⟩
  | 107 => ⟨S32768, .i32⟩
  | 108 => ⟨S_, .i32⟩
  | 109 => ⟨S32768, .i32⟩
  | 110 => ⟨S32768, .i32⟩
  | 111 => ⟨S32768, .i32⟩
  | 112 => ⟨S_, .f32⟩
  | 113 => ⟨S100, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S_, .f32⟩
  | 123 => ⟨S32768, .f32⟩
  | 124 => ⟨S100, .f32⟩
  | 125 => ⟨S10x10, .f32⟩
  | 126 => ⟨S_, .f32⟩
  | 127 => ⟨S_, .f32⟩
  | _ => ⟨S64x2048, .f32⟩

abbrev hbmTy0_4 (i : Nat) : BufTy := match i % 128 with
  | 0 => ⟨S_, .f32⟩
  | 1 => ⟨S_, .f32⟩
  | 2 => ⟨S10x10, .f32⟩
  | 3 => ⟨S10x10, .f32⟩
  | 4 => ⟨S_, .f32⟩
  | 5 => ⟨S10, .f32⟩
  | 6 => ⟨S_, .f32⟩
  | 7 => ⟨S10, .f32⟩
  | 8 => ⟨S10x1, .f32⟩
  | 9 => ⟨S1x10, .f32⟩
  | 10 => ⟨S10x10, .f32⟩
  | 11 => ⟨S10x10, .f32⟩
  | 12 => ⟨S10x10, .f32⟩
  | 13 => ⟨S_, .f32⟩
  | 14 => ⟨S10x10, .f32⟩
  | 15 => ⟨S10x10, .f32⟩
  | 16 => ⟨S_, .f32⟩
  | 17 => ⟨S10x10, .f32⟩
  | 18 => ⟨S10x10, .f32⟩
  | 19 => ⟨S10x10, .f32⟩
  | 20 => ⟨S10x10, .f32⟩
  | 21 => ⟨S10x10, .f32⟩
  | 22 => ⟨S_, .f32⟩
  | 23 => ⟨S_, .f32⟩
  | 24 => ⟨S_, .f32⟩
  | 25 => ⟨S_, .f32⟩
  | 26 => ⟨S1, .f32⟩
  | 27 => ⟨S1, .f32⟩
  | 28 => ⟨S1, .f32⟩
  | 29 => ⟨S1, .f32⟩
  | 30 => ⟨S4, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1, .f32⟩
  | 40 => ⟨S1, .f32⟩
  | 41 => ⟨S1, .f32⟩
  | 42 => ⟨S1, .f32⟩
  | 43 => ⟨S1, .f32⟩
  | 44 => ⟨S5, .f32⟩
  | 45 => ⟨S9, .f32⟩
  | _ => ⟨S64x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_cst_2 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_cst_3 : Ref sig .tc := ⟨.hbm, 24, rfl⟩
abbrev main_call0_v12 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_cst_1 : Ref sig .tc := ⟨.hbm, 34, rfl⟩
abbrev main_call1_v0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_cst_3 : Ref sig .tc := ⟨.hbm, 42, rfl⟩
abbrev main_v10 : Ref sig .tc := ⟨.hbm, 43, rfl⟩
abbrev main_cst_4 : Ref sig .tc := ⟨.hbm, 44, rfl⟩
abbrev main_v11 : Ref sig .tc := ⟨.hbm, 45, rfl⟩
abbrev main_cst_5 : Ref sig .tc := ⟨.hbm, 46, rfl⟩
abbrev main_v12 : Ref sig .tc := ⟨.hbm, 47, rfl⟩
abbrev main_cst_6 : Ref sig .tc := ⟨.hbm, 48, rfl⟩
abbrev main_call2_v0 : Ref sig .tc := ⟨.hbm, 49, rfl⟩
abbrev main_v13 : Ref sig .tc := ⟨.hbm, 50, rfl⟩
abbrev main_c_7 : Ref sig .tc := ⟨.hbm, 51, rfl⟩
abbrev main_v14 : Ref sig .tc := ⟨.hbm, 52, rfl⟩
abbrev main_v15 : Ref sig .tc := ⟨.hbm, 53, rfl⟩
abbrev main_c_8 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_9 : Ref sig .tc := ⟨.hbm, 66, rfl⟩
abbrev main_v27 : Ref sig .tc := ⟨.hbm, 67, rfl⟩
abbrev main_cst_10 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_11 : Ref sig .tc := ⟨.hbm, 72, rfl⟩
abbrev main_v31 : Ref sig .tc := ⟨.hbm, 73, rfl⟩
abbrev main_cst_12 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_13 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_14 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_15 : Ref sig .tc := ⟨.hbm, 90, rfl⟩
abbrev main_v45 : Ref sig .tc := ⟨.hbm, 91, rfl⟩
abbrev main_v46 : Ref sig .tc := ⟨.hbm, 92, rfl⟩
abbrev main_cst_16 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_17 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_18 : Ref sig .tc := ⟨.hbm, 101, rfl⟩
abbrev main_v53 : Ref sig .tc := ⟨.hbm, 102, rfl⟩
abbrev main_cst_19 : Ref sig .tc := ⟨.hbm, 103, rfl⟩
abbrev main_v54 : Ref sig .tc := ⟨.hbm, 104, rfl⟩
abbrev main_v55 : Ref sig .tc := ⟨.hbm, 105, rfl⟩
abbrev main_cst_20 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_21 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_22 : Ref sig .tc := ⟨.hbm, 114, rfl⟩
abbrev main_v62 : Ref sig .tc := ⟨.hbm, 115, rfl⟩
abbrev main_cst_23 : Ref sig .tc := ⟨.hbm, 116, rfl⟩
abbrev main_v63 : Ref sig .tc := ⟨.hbm, 117, rfl⟩
abbrev main_v64 : Ref sig .tc := ⟨.hbm, 118, rfl⟩
abbrev main_cst_24 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_25 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_c_26 : Ref sig .tc := ⟨.hbm, 127, rfl⟩
abbrev main_c_27 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v71 : Ref sig .tc := ⟨.hbm, 134, rfl⟩
abbrev main_cst_28 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_c_29 : Ref sig .tc := ⟨.hbm, 139, rfl⟩
abbrev main_c_30 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_v75 : Ref sig .tc := ⟨.hbm, 146, rfl⟩
abbrev main_c_31 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_cst_32 : Ref sig .tc := ⟨.hbm, 151, rfl⟩
abbrev main_v79 : Ref sig .tc := ⟨.hbm, 152, rfl⟩
abbrev main_c_33 : Ref sig .tc := ⟨.hbm, 153, rfl⟩
abbrev main_v80 : Ref sig .tc := ⟨.hbm, 154, rfl⟩
abbrev main_v81 : Ref sig .tc := ⟨.hbm, 155, rfl⟩
abbrev main_c_34 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_35 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_cst_36 : Ref sig .tc := ⟨.hbm, 165, rfl⟩
abbrev main_v89 : Ref sig .tc := ⟨.hbm, 166, rfl⟩
abbrev main_cst_37 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_38 : Ref sig .tc := ⟨.hbm, 171, rfl⟩
abbrev main_v93 : Ref sig .tc := ⟨.hbm, 172, rfl⟩
abbrev main_cst_39 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_cst_40 : Ref sig .tc := ⟨.hbm, 180, rfl⟩
abbrev main_v100 : Ref sig .tc := ⟨.hbm, 181, rfl⟩
abbrev main_v101 : Ref sig .tc := ⟨.hbm, 182, rfl⟩
abbrev main_cst_41 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_cst_42 : Ref sig .tc := ⟨.hbm, 189, rfl⟩
abbrev main_v107 : Ref sig .tc := ⟨.hbm, 190, rfl⟩
abbrev main_cst_43 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_cst_44 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_45 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_cst_46 : Ref sig .tc := ⟨.hbm, 205, rfl⟩
abbrev main_v119 : Ref sig .tc := ⟨.hbm, 206, rfl⟩
abbrev main_v120 : Ref sig .tc := ⟨.hbm, 207, rfl⟩
abbrev main_cst_47 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_cst_48 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_49 : Ref sig .tc := ⟨.hbm, 216, rfl⟩
abbrev main_v127 : Ref sig .tc := ⟨.hbm, 217, rfl⟩
abbrev main_cst_50 : Ref sig .tc := ⟨.hbm, 218, rfl⟩
abbrev main_v128 : Ref sig .tc := ⟨.hbm, 219, rfl⟩
abbrev main_v129 : Ref sig .tc := ⟨.hbm, 220, rfl⟩
abbrev main_cst_51 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_cst_52 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_cst_53 : Ref sig .tc := ⟨.hbm, 229, rfl⟩
abbrev main_v136 : Ref sig .tc := ⟨.hbm, 230, rfl⟩
abbrev main_cst_54 : Ref sig .tc := ⟨.hbm, 231, rfl⟩
abbrev main_v137 : Ref sig .tc := ⟨.hbm, 232, rfl⟩
abbrev main_v138 : Ref sig .tc := ⟨.hbm, 233, rfl⟩
abbrev main_cst_55 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_cst_56 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_c_57 : Ref sig .tc := ⟨.hbm, 242, rfl⟩
abbrev main_c_58 : Ref sig .tc := ⟨.hbm, 243, rfl⟩
abbrev main_call5_v0 : Ref sig .tc := ⟨.hbm, 244, rfl⟩
abbrev main_call5_v1 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_v145 : Ref sig .tc := ⟨.hbm, 249, rfl⟩
abbrev main_cst_59 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_c_60 : Ref sig .tc := ⟨.hbm, 254, rfl⟩
abbrev main_c_61 : Ref sig .tc := ⟨.hbm, 255, rfl⟩
abbrev main_call6_v0 : Ref sig .tc := ⟨.hbm, 256, rfl⟩
abbrev main_call6_v1 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_v149 : Ref sig .tc := ⟨.hbm, 261, rfl⟩
abbrev main_c_62 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_63 : Ref sig .tc := ⟨.hbm, 266, rfl⟩
abbrev main_v153 : Ref sig .tc := ⟨.hbm, 267, rfl⟩
abbrev main_c_64 : Ref sig .tc := ⟨.hbm, 268, rfl⟩
abbrev main_v154 : Ref sig .tc := ⟨.hbm, 269, rfl⟩
abbrev main_v155 : Ref sig .tc := ⟨.hbm, 270, rfl⟩
abbrev main_c_65 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_66 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_67 : Ref sig .tc := ⟨.hbm, 280, rfl⟩
abbrev main_v163 : Ref sig .tc := ⟨.hbm, 281, rfl⟩
abbrev main_cst_68 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_cst_69 : Ref sig .tc := ⟨.hbm, 286, rfl⟩
abbrev main_v167 : Ref sig .tc := ⟨.hbm, 287, rfl⟩
abbrev main_cst_70 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_cst_71 : Ref sig .tc := ⟨.hbm, 295, rfl⟩
abbrev main_v174 : Ref sig .tc := ⟨.hbm, 296, rfl⟩
abbrev main_v175 : Ref sig .tc := ⟨.hbm, 297, rfl⟩
abbrev main_cst_72 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_v179 : Ref sig .tc := ⟨.hbm, 302, rfl⟩
abbrev main_v180 : Ref sig .tc := ⟨.hbm, 303, rfl⟩
abbrev main_cst_73 : Ref sig .tc := ⟨.hbm, 304, rfl⟩
abbrev main_v181 : Ref sig .tc := ⟨.hbm, 305, rfl⟩
abbrev main_cst_74 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_cst_75 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_cst_76 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_cst_77 : Ref sig .tc := ⟨.hbm, 320, rfl⟩
abbrev main_v193 : Ref sig .tc := ⟨.hbm, 321, rfl⟩
abbrev main_v194 : Ref sig .tc := ⟨.hbm, 322, rfl⟩
abbrev main_cst_78 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_cst_79 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_cst_80 : Ref sig .tc := ⟨.hbm, 331, rfl⟩
abbrev main_v201 : Ref sig .tc := ⟨.hbm, 332, rfl⟩
abbrev main_cst_81 : Ref sig .tc := ⟨.hbm, 333, rfl⟩
abbrev main_v202 : Ref sig .tc := ⟨.hbm, 334, rfl⟩
abbrev main_v203 : Ref sig .tc := ⟨.hbm, 335, rfl⟩
abbrev main_cst_82 : Ref sig .tc := ⟨.hbm, 336, rfl⟩
abbrev main_v204 : Ref sig .tc := ⟨.hbm, 337, rfl⟩
abbrev main_v205 : Ref sig .tc := ⟨.hbm, 338, rfl⟩
abbrev main_v206 : Ref sig .tc := ⟨.hbm, 339, rfl⟩
abbrev main_cst_83 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_cst_84 : Ref sig .tc := ⟨.hbm, 344, rfl⟩
abbrev main_v210 : Ref sig .tc := ⟨.hbm, 345, rfl⟩
abbrev main_cst_85 : Ref sig .tc := ⟨.hbm, 346, rfl⟩
abbrev main_v211 : Ref sig .tc := ⟨.hbm, 347, rfl⟩
abbrev main_v212 : Ref sig .tc := ⟨.hbm, 348, rfl⟩
abbrev main_cst_86 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_cst_87 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_c_88 : Ref sig .tc := ⟨.hbm, 357, rfl⟩
abbrev main_c_89 : Ref sig .tc := ⟨.hbm, 358, rfl⟩
abbrev main_call7_v0 : Ref sig .tc := ⟨.hbm, 359, rfl⟩
abbrev main_call7_v1 : Ref sig .tc := ⟨.hbm, 360, rfl⟩
abbrev main_call7_v2 : Ref sig .tc := ⟨.hbm, 361, rfl⟩
abbrev main_call7_v3 : Ref sig .tc := ⟨.hbm, 362, rfl⟩
abbrev main_call7_v4 : Ref sig .tc := ⟨.hbm, 363, rfl⟩
abbrev main_v219 : Ref sig .tc := ⟨.hbm, 364, rfl⟩
abbrev main_cst_90 : Ref sig .tc := ⟨.hbm, 365, rfl⟩
abbrev main_v220 : Ref sig .tc := ⟨.hbm, 366, rfl⟩
abbrev main_v221 : Ref sig .tc := ⟨.hbm, 367, rfl⟩
abbrev main_v222 : Ref sig .tc := ⟨.hbm, 368, rfl⟩
abbrev main_c_91 : Ref sig .tc := ⟨.hbm, 369, rfl⟩
abbrev main_c_92 : Ref sig .tc := ⟨.hbm, 370, rfl⟩
abbrev main_call8_v0 : Ref sig .tc := ⟨.hbm, 371, rfl⟩
abbrev main_call8_v1 : Ref sig .tc := ⟨.hbm, 372, rfl⟩
abbrev main_call8_v2 : Ref sig .tc := ⟨.hbm, 373, rfl⟩
abbrev main_call8_v3 : Ref sig .tc := ⟨.hbm, 374, rfl⟩
abbrev main_call8_v4 : Ref sig .tc := ⟨.hbm, 375, rfl⟩
abbrev main_v223 : Ref sig .tc := ⟨.hbm, 376, rfl⟩
abbrev main_c_93 : Ref sig .tc := ⟨.hbm, 377, rfl⟩
abbrev main_v224 : Ref sig .tc := ⟨.hbm, 378, rfl⟩
abbrev main_v225 : Ref sig .tc := ⟨.hbm, 379, rfl⟩
abbrev main_v226 : Ref sig .tc := ⟨.hbm, 380, rfl⟩
abbrev main_cst_94 : Ref sig .tc := ⟨.hbm, 381, rfl⟩
abbrev main_v227 : Ref sig .tc := ⟨.hbm, 382, rfl⟩
abbrev main_c_95 : Ref sig .tc := ⟨.hbm, 383, rfl⟩
abbrev main_v228 : Ref sig .tc := ⟨.hbm, 384, rfl⟩
abbrev main_v229 : Ref sig .tc := ⟨.hbm, 385, rfl⟩
abbrev main_c_96 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_v233 : Ref sig .tc := ⟨.hbm, 390, rfl⟩
abbrev main_cst_97 : Ref sig .tc := ⟨.hbm, 391, rfl⟩
abbrev main_v234 : Ref sig .tc := ⟨.hbm, 392, rfl⟩
abbrev main_v235 : Ref sig .tc := ⟨.hbm, 393, rfl⟩
abbrev main_v236 : Ref sig .tc := ⟨.hbm, 394, rfl⟩
abbrev main_cst_98 : Ref sig .tc := ⟨.hbm, 395, rfl⟩
abbrev main_v237 : Ref sig .tc := ⟨.hbm, 396, rfl⟩
abbrev main_cst_99 : Ref sig .tc := ⟨.hbm, 397, rfl⟩
abbrev main_v238 : Ref sig .tc := ⟨.hbm, 398, rfl⟩
abbrev main_v239 : Ref sig .tc := ⟨.hbm, 399, rfl⟩
abbrev main_v240 : Ref sig .tc := ⟨.hbm, 400, rfl⟩
abbrev main_cst_100 : Ref sig .tc := ⟨.hbm, 401, rfl⟩
abbrev main_v241 : Ref sig .tc := ⟨.hbm, 402, rfl⟩
abbrev main_cst_101 : Ref sig .tc := ⟨.hbm, 403, rfl⟩
abbrev main_v242 : Ref sig .tc := ⟨.hbm, 404, rfl⟩
abbrev main_v243 : Ref sig .tc := ⟨.hbm, 405, rfl⟩
abbrev main_v244 : Ref sig .tc := ⟨.hbm, 406, rfl⟩
abbrev main_v245 : Ref sig .tc := ⟨.hbm, 407, rfl⟩
abbrev main_v246 : Ref sig .tc := ⟨.hbm, 408, rfl⟩
abbrev main_v247 : Ref sig .tc := ⟨.hbm, 409, rfl⟩
abbrev main_cst_102 : Ref sig .tc := ⟨.hbm, 410, rfl⟩
abbrev main_v248 : Ref sig .tc := ⟨.hbm, 411, rfl⟩
abbrev main_v249 : Ref sig .tc := ⟨.hbm, 412, rfl⟩
abbrev main_cst_103 : Ref sig .tc := ⟨.hbm, 413, rfl⟩
abbrev main_v250 : Ref sig .tc := ⟨.hbm, 414, rfl⟩
abbrev main_v251 : Ref sig .tc := ⟨.hbm, 415, rfl⟩
abbrev main_v252 : Ref sig .tc := ⟨.hbm, 416, rfl⟩
abbrev main_v253 : Ref sig .tc := ⟨.hbm, 417, rfl⟩
abbrev main_v254 : Ref sig .tc := ⟨.hbm, 418, rfl⟩
abbrev main_cst_104 : Ref sig .tc := ⟨.hbm, 419, rfl⟩
abbrev main_v255 : Ref sig .tc := ⟨.hbm, 420, rfl⟩
abbrev main_cst_105 : Ref sig .tc := ⟨.hbm, 421, rfl⟩
abbrev main_v256 : Ref sig .tc := ⟨.hbm, 422, rfl⟩
abbrev main_v257 : Ref sig .tc := ⟨.hbm, 423, rfl⟩
abbrev main_v258 : Ref sig .tc := ⟨.hbm, 424, rfl⟩
abbrev main_v259 : Ref sig .tc := ⟨.hbm, 425, rfl⟩
abbrev main_v260 : Ref sig .tc := ⟨.hbm, 426, rfl⟩
abbrev main_cst_106 : Ref sig .tc := ⟨.hbm, 427, rfl⟩
abbrev main_v261 : Ref sig .tc := ⟨.hbm, 428, rfl⟩
abbrev main_v262 : Ref sig .tc := ⟨.hbm, 429, rfl⟩
abbrev main_v263 : Ref sig .tc := ⟨.hbm, 430, rfl⟩
abbrev main_cst_107 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_cst_108 : Ref sig .tc := ⟨.hbm, 435, rfl⟩
abbrev main_v267 : Ref sig .tc := ⟨.hbm, 436, rfl⟩
abbrev main_v268 : Ref sig .tc := ⟨.hbm, 437, rfl⟩
abbrev main_cst_109 : Ref sig .tc := ⟨.hbm, 438, rfl⟩
abbrev main_v269 : Ref sig .tc := ⟨.hbm, 439, rfl⟩
abbrev main_v270 : Ref sig .tc := ⟨.hbm, 440, rfl⟩
abbrev main_v271 : Ref sig .tc := ⟨.hbm, 441, rfl⟩
abbrev main_cst_110 : Ref sig .tc := ⟨.hbm, 442, rfl⟩
abbrev main_v272 : Ref sig .tc := ⟨.hbm, 443, rfl⟩
abbrev main_v273 : Ref sig .tc := ⟨.hbm, 444, rfl⟩
abbrev main_v274 : Ref sig .tc := ⟨.hbm, 445, rfl⟩
abbrev main_cst_111 : Ref sig .tc := ⟨.hbm, 446, rfl⟩
abbrev main_v275 : Ref sig .tc := ⟨.hbm, 447, rfl⟩
abbrev main_cst_112 : Ref sig .tc := ⟨.hbm, 448, rfl⟩
abbrev main_v276 : Ref sig .tc := ⟨.hbm, 449, rfl⟩
abbrev main_v277 : Ref sig .tc := ⟨.hbm, 450, rfl⟩
abbrev main_cst_113 : Ref sig .tc := ⟨.hbm, 451, rfl⟩
abbrev main_v278 : Ref sig .tc := ⟨.hbm, 452, rfl⟩
abbrev main_v279 : Ref sig .tc := ⟨.hbm, 453, rfl⟩
abbrev main_v280 : Ref sig .tc := ⟨.hbm, 454, rfl⟩
abbrev main_cst_114 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_cst_115 : Ref sig .tc := ⟨.hbm, 459, rfl⟩
abbrev main_v284 : Ref sig .tc := ⟨.hbm, 460, rfl⟩
abbrev main_cst_116 : Ref sig .tc := ⟨.hbm, 461, rfl⟩
abbrev main_v285 : Ref sig .tc := ⟨.hbm, 462, rfl⟩
abbrev main_v286 : Ref sig .tc := ⟨.hbm, 463, rfl⟩
abbrev main_cst_117 : Ref sig .tc := ⟨.hbm, 464, rfl⟩
abbrev main_v287 : Ref sig .tc := ⟨.hbm, 465, rfl⟩
abbrev main_v288 : Ref sig .tc := ⟨.hbm, 466, rfl⟩
abbrev main_v289 : Ref sig .tc := ⟨.hbm, 467, rfl⟩
abbrev main_cst_118 : Ref sig .tc := ⟨.hbm, 468, rfl⟩
abbrev main_v290 : Ref sig .tc := ⟨.hbm, 469, rfl⟩
abbrev main_v291 : Ref sig .tc := ⟨.hbm, 470, rfl⟩
abbrev main_v292 : Ref sig .tc := ⟨.hbm, 471, rfl⟩
abbrev main_c_119 : Ref sig .tc := ⟨.hbm, 472, rfl⟩
abbrev main_c_120 : Ref sig .tc := ⟨.hbm, 473, rfl⟩
abbrev main_call9_v0 : Ref sig .tc := ⟨.hbm, 474, rfl⟩
abbrev main_call9_v1 : Ref sig .tc := ⟨.hbm, 475, rfl⟩
abbrev main_call9_v2 : Ref sig .tc := ⟨.hbm, 476, rfl⟩
abbrev main_call9_v3 : Ref sig .tc := ⟨.hbm, 477, rfl⟩
abbrev main_call9_v4 : Ref sig .tc := ⟨.hbm, 478, rfl⟩
abbrev main_v293 : Ref sig .tc := ⟨.hbm, 479, rfl⟩
abbrev main_cst_121 : Ref sig .tc := ⟨.hbm, 480, rfl⟩
abbrev main_v294 : Ref sig .tc := ⟨.hbm, 481, rfl⟩
abbrev main_v295 : Ref sig .tc := ⟨.hbm, 482, rfl⟩
abbrev main_v296 : Ref sig .tc := ⟨.hbm, 483, rfl⟩
abbrev main_c_122 : Ref sig .tc := ⟨.hbm, 484, rfl⟩
abbrev main_c_123 : Ref sig .tc := ⟨.hbm, 485, rfl⟩
abbrev main_call10_v0 : Ref sig .tc := ⟨.hbm, 486, rfl⟩
abbrev main_call10_v1 : Ref sig .tc := ⟨.hbm, 487, rfl⟩
abbrev main_call10_v2 : Ref sig .tc := ⟨.hbm, 488, rfl⟩
abbrev main_call10_v3 : Ref sig .tc := ⟨.hbm, 489, rfl⟩
abbrev main_call10_v4 : Ref sig .tc := ⟨.hbm, 490, rfl⟩
abbrev main_v297 : Ref sig .tc := ⟨.hbm, 491, rfl⟩
abbrev main_c_124 : Ref sig .tc := ⟨.hbm, 492, rfl⟩
abbrev main_v298 : Ref sig .tc := ⟨.hbm, 493, rfl⟩
abbrev main_v299 : Ref sig .tc := ⟨.hbm, 494, rfl⟩
abbrev main_v300 : Ref sig .tc := ⟨.hbm, 495, rfl⟩
abbrev main_cst_125 : Ref sig .tc := ⟨.hbm, 496, rfl⟩
abbrev main_v301 : Ref sig .tc := ⟨.hbm, 497, rfl⟩
abbrev main_c_126 : Ref sig .tc := ⟨.hbm, 498, rfl⟩
abbrev main_v302 : Ref sig .tc := ⟨.hbm, 499, rfl⟩
abbrev main_v303 : Ref sig .tc := ⟨.hbm, 500, rfl⟩
abbrev main_c_127 : Ref sig .tc := ⟨.hbm, 501, rfl⟩
abbrev main_v304 : Ref sig .tc := ⟨.hbm, 502, rfl⟩
abbrev main_v305 : Ref sig .tc := ⟨.hbm, 503, rfl⟩
abbrev main_v306 : Ref sig .tc := ⟨.hbm, 504, rfl⟩
abbrev main_v307 : Ref sig .tc := ⟨.hbm, 505, rfl⟩
abbrev main_cst_128 : Ref sig .tc := ⟨.hbm, 506, rfl⟩
abbrev main_v308 : Ref sig .tc := ⟨.hbm, 507, rfl⟩
abbrev main_v309 : Ref sig .tc := ⟨.hbm, 508, rfl⟩
abbrev main_v310 : Ref sig .tc := ⟨.hbm, 509, rfl⟩
abbrev main_cst_129 : Ref sig .tc := ⟨.hbm, 510, rfl⟩
abbrev main_v311 : Ref sig .tc := ⟨.hbm, 511, rfl⟩
abbrev main_cst_130 : Ref sig .tc := ⟨.hbm, 512, rfl⟩
abbrev main_v312 : Ref sig .tc := ⟨.hbm, 513, rfl⟩
abbrev main_v313 : Ref sig .tc := ⟨.hbm, 514, rfl⟩
abbrev main_v314 : Ref sig .tc := ⟨.hbm, 515, rfl⟩
abbrev main_cst_131 : Ref sig .tc := ⟨.hbm, 516, rfl⟩
abbrev main_v315 : Ref sig .tc := ⟨.hbm, 517, rfl⟩
abbrev main_cst_132 : Ref sig .tc := ⟨.hbm, 518, rfl⟩
abbrev main_v316 : Ref sig .tc := ⟨.hbm, 519, rfl⟩
abbrev main_v317 : Ref sig .tc := ⟨.hbm, 520, rfl⟩
abbrev main_v318 : Ref sig .tc := ⟨.hbm, 521, rfl⟩
abbrev main_v319 : Ref sig .tc := ⟨.hbm, 522, rfl⟩
abbrev main_v320 : Ref sig .tc := ⟨.hbm, 523, rfl⟩
abbrev main_v321 : Ref sig .tc := ⟨.hbm, 524, rfl⟩
abbrev main_cst_133 : Ref sig .tc := ⟨.hbm, 525, rfl⟩
abbrev main_v322 : Ref sig .tc := ⟨.hbm, 526, rfl⟩
abbrev main_v323 : Ref sig .tc := ⟨.hbm, 527, rfl⟩
abbrev main_cst_134 : Ref sig .tc := ⟨.hbm, 528, rfl⟩
abbrev main_v324 : Ref sig .tc := ⟨.hbm, 529, rfl⟩
abbrev main_v325 : Ref sig .tc := ⟨.hbm, 530, rfl⟩
abbrev main_v326 : Ref sig .tc := ⟨.hbm, 531, rfl⟩
abbrev main_v327 : Ref sig .tc := ⟨.hbm, 532, rfl⟩
abbrev main_v328 : Ref sig .tc := ⟨.hbm, 533, rfl⟩
abbrev main_cst_135 : Ref sig .tc := ⟨.hbm, 534, rfl⟩
abbrev main_v329 : Ref sig .tc := ⟨.hbm, 535, rfl⟩
abbrev main_cst_136 : Ref sig .tc := ⟨.hbm, 536, rfl⟩
abbrev main_v330 : Ref sig .tc := ⟨.hbm, 537, rfl⟩
abbrev main_v331 : Ref sig .tc := ⟨.hbm, 538, rfl⟩
abbrev main_v332 : Ref sig .tc := ⟨.hbm, 539, rfl⟩
abbrev main_v333 : Ref sig .tc := ⟨.hbm, 540, rfl⟩
abbrev main_v334 : Ref sig .tc := ⟨.hbm, 541, rfl⟩
abbrev main_v335 : Ref sig .tc := ⟨.hbm, 542, rfl⟩
abbrev main_cst_137 : Ref sig .tc := ⟨.hbm, 543, rfl⟩
abbrev main_v336 : Ref sig .tc := ⟨.hbm, 544, rfl⟩
abbrev main_cst_138 : Ref sig .tc := ⟨.hbm, 545, rfl⟩
abbrev main_v337 : Ref sig .tc := ⟨.hbm, 546, rfl⟩
abbrev main_v338 : Ref sig .tc := ⟨.hbm, 547, rfl⟩
abbrev main_cst_139 : Ref sig .tc := ⟨.hbm, 548, rfl⟩
abbrev main_v339 : Ref sig .tc := ⟨.hbm, 549, rfl⟩
abbrev main_v340 : Ref sig .tc := ⟨.hbm, 550, rfl⟩
abbrev main_v341 : Ref sig .tc := ⟨.hbm, 551, rfl⟩
abbrev main_v342 : Ref sig .tc := ⟨.hbm, 552, rfl⟩
abbrev main_v343 : Ref sig .tc := ⟨.hbm, 553, rfl⟩
abbrev main_v344 : Ref sig .tc := ⟨.hbm, 554, rfl⟩
abbrev main_v345 : Ref sig .tc := ⟨.hbm, 555, rfl⟩
abbrev main_v346 : Ref sig .tc := ⟨.hbm, 556, rfl⟩
abbrev main_v347 : Ref sig .tc := ⟨.hbm, 557, rfl⟩

abbrev nD : Nat := 1
abbrev τ : Topo := Topo.v7x

variable {F : FTy → Type} [FloatOps F]
-- ==== Proof.KRun.lean ====
/- The kernel's run with its result: the launch of its two grids and two host operations, the result array read off
   the last boundary beside the arguments. -/
module

public import proofs.«01_k».proof.Proof.Gen.KernelIdeal.Frame

@[expose] public section

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with the result array at the last boundary's contents and the argument arrays as
    launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => (fun c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩))

end Cert.KRun

end
-- ==== Proof.Spec.lean ====
/- The problem's mathematics over the extended reals, as plain functions of coordinates: what both programs are
   shown to compute. -/
module

public import Idealize.ShloMosaic.PureOps.Ideal
public import Idealize.ShloMosaic.PureOps.Ideal.Laws

@[expose] public section

noncomputable section

namespace Cert.Spec

open Idealize.ShloMosaic

/-- The small constant added to a denominator that is a range or a sum of squares. -/
abbrev eps6 : EReal := Ideal.ofBits .f32 0x358637BD#32
/-- The small constant added to a joint histogram and to the products of its margins. -/
abbrev eps10 : EReal := Ideal.ofBits .f32 0x2EDBE6FF#32

/-- The circular buffer after the write at row 0: the first 64 rows are the new states. -/
def mem (st : Fin 64 → Fin 2048 → EReal) (sm : Fin 100 → Fin 2048 → EReal) (r : Fin 100) (d : Fin 2048) : EReal :=
  if h : r.val < 64 then st ⟨r.val, h⟩ d else sm r d

/-- A column's mean over the 100 rows. -/
def mean (v : Fin 100 → Fin 2048 → EReal) (d : Fin 2048) : EReal := (∑ r, v r d) * ((1 / 100 : ℝ) : EReal)

/-- A column's variance with one degree of freedom taken off. -/
def var (v : Fin 100 → Fin 2048 → EReal) (d : Fin 2048) : EReal :=
  (∑ r, (v r d - mean v d) * (v r d - mean v d)) * ((1 / 99 : ℝ) : EReal)

/-- The total variance. -/
def tv (v : Fin 100 → Fin 2048 → EReal) : EReal := ∑ d, var v d

/-- The total variance where it is positive, else one. -/
def safe (v : Fin 100 → Fin 2048 → EReal) : EReal := if 0 < tv v then tv v else 1

/-- A column's share of the total variance. -/
def share (v : Fin 100 → Fin 2048 → EReal) (d : Fin 2048) : EReal := Ideal.div (var v d) (safe v)

/-- The effective dimension: the participation ratio of the columns' variances. -/
def eff (v : Fin 100 → Fin 2048 → EReal) : EReal :=
  if 0 < tv v then Ideal.div 1 ((∑ d, share v d * share v d) + eps6) else 1

/-- The squared distance of two sampled rows. -/
def dist2 (s : Fin 10 → Fin 2048 → EReal) (i j : Fin 10) : EReal := ∑ d, (s i d - s j d) * (s i d - s j d)

/-- The mean pairwise distance of the sampled rows. -/
def spread (s : Fin 10 → Fin 2048 → EReal) : EReal :=
  (∑ i, ∑ j, Ideal.sqrt (max (dist2 s i j) 0)) * ((1 / 90 : ℝ) : EReal)

/-- The differentiation measure. -/
def diff (v : Fin 100 → Fin 2048 → EReal) (s : Fin 10 → Fin 2048 → EReal) : EReal := Ideal.sqrt (tv v) * spread s

/-- The mean of a row of the history over the columns where the weights are one. -/
def side (h : Fin 32768 → Fin 2048 → EReal) (w : Fin 2048 → EReal) (t : Fin 32768) : EReal :=
  Ideal.div (∑ d, h t d * w d) (∑ d, w d)

/-- The same mean with the weights divided by their total first. -/
def mixed (h : Fin 32768 → Fin 2048 → EReal) (w : Fin 2048 → EReal) (t : Fin 32768) : EReal :=
  ∑ d, Ideal.div (w d) (∑ d, w d) * h t d

/-- The least element of a series. -/
def lo (s : Fin 32768 → EReal) : EReal := Finset.univ.fold min ⊤ s
/-- The greatest element of a series. -/
def hi (s : Fin 32768 → EReal) : EReal := Finset.univ.fold max ⊥ s

/-- A series moved and scaled to the unit interval. -/
def norm01 (s : Fin 32768 → EReal) (t : Fin 32768) : EReal := Ideal.div (s t - lo s) (hi s - lo s + eps6)

/-- The bin of a tenfold value: its whole part, kept between 0 and 9. -/
def bin : EReal → ℕ
  | ⊥ => 0
  | ⊤ => 9
  | (r : ℝ) => (max 0 (min 9 ⌊r⌋)).toNat

/-- The joint histogram of two series of the unit interval, ten bins each way. -/
def joint (x y : Fin 32768 → EReal) (a b : Fin 10) : EReal :=
  ∑ t, if bin (x t * ((10 : ℝ) : EReal)) = a.val ∧ bin (y t * ((10 : ℝ) : EReal)) = b.val then 1 else 0

/-- A histogram divided by its total. -/
def prob (J : Fin 10 → Fin 10 → EReal) (a b : Fin 10) : EReal :=
  Ideal.div (J a b) ((∑ a, ∑ b, J a b) + eps10)

/-- The mutual information of a joint histogram, not below zero. -/
def mi (J : Fin 10 → Fin 10 → EReal) : EReal :=
  max (∑ a, ∑ b, prob J a b * Ideal.log (Ideal.div (prob J a b + eps10)
    ((∑ b', prob J a b') * (∑ a', prob J a' b) + eps10))) 0

/-- One partition's mutual information: of the two halves' means over the history. -/
def part (h : Fin 32768 → Fin 2048 → EReal) (w : Fin 2048 → EReal) : EReal :=
  mi (joint (norm01 (side h w)) (norm01 (side h fun d => 1 - w d)))

/-- A mask's bit as a weight. -/
def weight (q : BitVec 1) : EReal := if q = 1#1 then 1 else 0

/-- The least of the four partitions' mutual informations. -/
def least (q : Fin 4 → EReal) : EReal := min (min (q 0) (q 1)) (min (q 2) (q 3))

/-- The nine results: the consciousness score, the differentiation, the effective dimension, the total variance, the
    integration, and the four partitions' mutual informations. -/
def out (v : Fin 100 → Fin 2048 → EReal) (s : Fin 10 → Fin 2048 → EReal) (q : Fin 4 → EReal) : Fin 9 → EReal :=
  ![least q + Ideal.tanh (diff v s), diff v s, eff v, tv v, least q, q 0, q 1, q 2, q 3]

end Cert.Spec

end
-- ==== Proof.Math.lean ====
/- Facts of the extended reals both sides use: literals, the bin of a tenfold value, and sums scaled by a positive
   real number. -/
module

public import proofs.«01_k».proof.Proof.Spec

@[expose] public section

noncomputable section

namespace Cert.Math

open Idealize.ShloMosaic

/-! ## Literals: the words the programs write, as numbers -/

theorem lit_ten : Ideal.ofBits .f32 1092616192#32 = ((10 : ℝ) : EReal) := by
  simp [Ideal.ofBits, Ideal.ieee, -EReal.coe_mul]; norm_num
theorem lit_nine : Ideal.ofBits .f32 1091567616#32 = ((9 : ℝ) : EReal) := by
  simp [Ideal.ofBits, Ideal.ieee, -EReal.coe_mul]; norm_num
theorem lit_eight : Ideal.ofBits .f32 1090519040#32 = ((8 : ℝ) : EReal) := by
  simp [Ideal.ofBits, Ideal.ieee, -EReal.coe_mul]; norm_num
theorem lit_seven : Ideal.ofBits .f32 1088421888#32 = ((7 : ℝ) : EReal) := by
  simp [Ideal.ofBits, Ideal.ieee, -EReal.coe_mul]; norm_num
theorem lit_six : Ideal.ofBits .f32 1086324736#32 = ((6 : ℝ) : EReal) := by
  simp [Ideal.ofBits, Ideal.ieee, -EReal.coe_mul]; norm_num
theorem lit_five : Ideal.ofBits .f32 1084227584#32 = ((5 : ℝ) : EReal) := by
  simp [Ideal.ofBits, Ideal.ieee, -EReal.coe_mul]; norm_num
theorem lit_four : Ideal.ofBits .f32 1082130432#32 = ((4 : ℝ) : EReal) := by
  simp [Ideal.ofBits, Ideal.ieee, -EReal.coe_mul]; norm_num
theorem lit_three : Ideal.ofBits .f32 1077936128#32 = ((3 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_hundred : Ideal.ofBits .f32 1120403456#32 = ((100 : ℝ) : EReal) := by
  simp [Ideal.ofBits, Ideal.ieee, -EReal.coe_mul]; norm_num
theorem lit_ninety : Ideal.ofBits .f32 0x42B40000#32 = ((90 : ℝ) : EReal) := by
  simp [Ideal.ofBits, Ideal.ieee, -EReal.coe_mul]; norm_num
theorem lit_columns : Ideal.ofBits .f32 1157627904#32 = ((2048 : ℝ) : EReal) := by
  simp [Ideal.ofBits, Ideal.ieee, -EReal.coe_mul]; norm_num
theorem lit_top : Ideal.ofBits .f32 2139095040#32 = (⊤ : EReal) := by
  simp [Ideal.ofBits, Ideal.ieee]
theorem lit_bot : Ideal.ofBits .f32 4286578688#32 = (⊥ : EReal) := by
  simp [Ideal.ofBits, Ideal.ieee]

/-! ## Whole numbers -/

/-- A small number's word, read as a signed one, is the number. -/
theorem toInt_ofNat (n : ℕ) (h : n < 2 ^ 31) : (BitVec.ofNat 32 n).toInt = n := by
  rw [BitVec.toInt_eq_toNat_cond, BitVec.toNat_ofNat]; split <;> omega

/-- A small number's word as a float is the number. -/
theorem sitofp_ofNat (n : ℕ) (h : n < 2 ^ 31) :
    (FloatOps.sitofp (F := Ideal) .f32 (BitVec.ofNat 32 n) : EReal) = ((n : ℝ) : EReal) := by
  show (((BitVec.ofNat 32 n).toInt : ℝ) : EReal) = _
  rw [toInt_ofNat n h]; simp

/-- A mask's bit widened, compared with zero and made a float is its weight. -/
theorem weight_word (q : BitVec 1) :
    (FloatOps.sitofp (F := Ideal) .f32 (BitVec.setWidth 32 (IntOp.cmpi .ne (BitVec.setWidth 32 q) 0#32)) : EReal) =
      Spec.weight q := by
  have h : q = 0#1 ∨ q = 1#1 := by revert q; decide
  rcases h with rfl | rfl
  · show (((BitVec.setWidth 32 (IntOp.cmpi .ne (BitVec.setWidth 32 0#1) 0#32)).toInt : ℝ) : EReal) = _
    have : (BitVec.setWidth 32 (IntOp.cmpi .ne (BitVec.setWidth 32 0#1) 0#32)).toInt = 0 := by decide
    rw [this]; simp [Spec.weight]
  · show (((BitVec.setWidth 32 (IntOp.cmpi .ne (BitVec.setWidth 32 1#1) 0#32)).toInt : ℝ) : EReal) = _
    have : (BitVec.setWidth 32 (IntOp.cmpi .ne (BitVec.setWidth 32 1#1) 0#32)).toInt = 1 := by decide
    rw [this]; simp [Spec.weight]

/-! ## Bins -/

/-- The bin of each kind of value: of the negative infinity, -/
theorem bin_bot : Spec.bin ⊥ = 0 := rfl
/-- of the infinity, -/
theorem bin_top : Spec.bin ⊤ = 9 := rfl
/-- and of a real number. -/
theorem bin_coe (r : ℝ) : Spec.bin (r : EReal) = (max 0 (min 9 ⌊r⌋)).toNat := rfl

/-- A bin is below 10. -/
theorem bin_lt (y : EReal) : Spec.bin y < 10 := by
  induction y with
  | bot => rw [bin_bot]; omega
  | top => rw [bin_top]; omega
  | coe r => rw [bin_coe]; omega

/-- The whole part of a value kept between 0 and 9 is its bin's number. -/
theorem floor_clip (y : EReal) :
    min ((9 : ℝ) : EReal) (max 0 (Ideal.liftRound Int.floor y)) = ((Spec.bin y : ℝ) : EReal) := by
  induction y with
  | bot =>
    show min ((9 : ℝ) : EReal) (max 0 ⊥) = _
    rw [bin_bot, max_eq_left bot_le, min_eq_right (by exact_mod_cast (by norm_num : (0 : ℝ) ≤ 9))]
    simp
  | top =>
    show min ((9 : ℝ) : EReal) (max 0 ⊤) = _
    rw [bin_top, max_eq_right le_top, min_eq_left le_top]
    simp
  | coe r =>
    show min ((9 : ℝ) : EReal) (max ((0 : ℝ) : EReal) (((⌊r⌋ : ℤ) : ℝ) : EReal)) = _
    have e : ((Spec.bin (r : EReal) : ℕ) : ℝ) = ((max 0 (min 9 ⌊r⌋) : ℤ) : ℝ) := by
      show (((max 0 (min 9 ⌊r⌋)).toNat : ℕ) : ℝ) = _
      rw [← Int.cast_natCast, Int.toNat_of_nonneg (le_max_left _ _)]
    rw [e, ← EReal.coe_strictMono.monotone.map_max, ← EReal.coe_strictMono.monotone.map_min]
    congr 1
    push_cast
    rw [min_max_distrib_left, min_eq_right (by norm_num : (0 : ℝ) ≤ 9)]

/-- Two small numbers are one as extended reals exactly when they are one. -/
theorem coe_nat_inj (a b : ℕ) : (((a : ℝ) : EReal) = ((b : ℝ) : EReal)) ↔ a = b := by
  rw [EReal.coe_eq_coe_iff, Nat.cast_inj]

/-! ## Sums scaled by a real number -/

/-- A nonnegative real factor comes out of a sum. -/
theorem sum_scale {ι : Type} (s : Finset ι) (k : ℝ) (hk : 0 ≤ k) (f : ι → EReal) :
    ∑ x ∈ s, (k : EReal) * f x = (k : EReal) * ∑ x ∈ s, f x := by
  classical
  induction s using Finset.induction_on with
  | empty => simp
  | insert a s ha ih =>
    rw [Finset.sum_insert ha, Finset.sum_insert ha, ih,
      EReal.left_distrib_of_nonneg_of_ne_top (by exact_mod_cast hk) (EReal.coe_ne_top _)]

/-- A mean's divisor may be taken to the weights before the products are summed. -/
theorem scaled_sum {n : ℕ} (a h : Fin n → EReal) (c : ℝ) (hc : 0 < c) :
    ∑ x, Ideal.div (a x) (c : EReal) * h x = Ideal.div (∑ x, h x * a x) (c : EReal) := by
  rw [Ideal.div_coe hc.ne', mul_comm, ← sum_scale _ _ (by positivity)]
  refine Finset.sum_congr rfl fun x _ => ?_
  rw [Ideal.div_coe hc.ne', mul_comm (a x), mul_assoc, mul_comm (a x)]

/-- A sum of real numbers is one. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The weight as a real number. -/
def wt (q : BitVec 1) : ℝ := if q = 1#1 then 1 else 0

/-- It is the weight. -/
theorem weight_eq (q : BitVec 1) : Spec.weight q = (wt q : EReal) := by
  unfold Spec.weight wt; split <;> simp

/-! ## The means over a half of the columns -/

/-- Weights that are each zero or one, as those of a half of the columns are. -/
def Bits {n : ℕ} (w : Fin n → EReal) : Prop := ∀ d, w d = 0 ∨ w d = 1

/-- A mask's weights are zeros and ones. -/
theorem bits_weight {n : ℕ} (q : Fin n → BitVec 1) : Bits fun d => Spec.weight (q d) := fun d => by
  dsimp only
  unfold Spec.weight
  split
  · exact .inr rfl
  · exact .inl rfl

/-- So are those of the other columns. -/
theorem bits_rest {n : ℕ} {w : Fin n → EReal} (h : Bits w) : Bits fun d => 1 - w d := fun d => by
  dsimp only
  rcases h d with e | e <;> rw [e]
  · exact .inr (sub_zero _)
  · exact .inl (by rw [← EReal.coe_one, ← EReal.coe_sub]; simp)

/-- The total of a half's weights is a positive real number when one of them is not zero. -/
theorem bits_sum {n : ℕ} (w : Fin n → EReal) (h : Bits w) (hw : ∃ d, w d ≠ 0) :
    ∃ c : ℝ, 0 < c ∧ ∑ d, w d = (c : EReal) := by
  have e : ∀ d, w d = ((w d).toReal : EReal) := fun d => by rcases h d with e | e <;> rw [e] <;> simp
  refine ⟨∑ d, (w d).toReal, ?_, ?_⟩
  · obtain ⟨d, hd⟩ := hw
    refine Finset.sum_pos' (fun i _ => ?_) ⟨d, Finset.mem_univ _, ?_⟩
    · rcases h i with e | e <;> rw [e] <;> simp
    · rw [(h d).resolve_left hd]; simp
  · rw [coe_sum]; exact Finset.sum_congr rfl fun d _ => e d

/-- A value that is an infinity or zero. -/
def Extreme (x : EReal) : Prop := x = ⊥ ∨ x = ⊤ ∨ x = 0

/-- The sum of two infinities or zeros is one. -/
theorem extreme_add {x y : EReal} (hx : Extreme x) (hy : Extreme y) : Extreme (x + y) := by
  rcases hx with rfl | rfl | rfl <;> rcases hy with rfl | rfl | rfl <;> simp [Extreme]

/-- So is any sum of them. -/
theorem extreme_sum {ι : Type} (s : Finset ι) (f : ι → EReal) (h : ∀ x, Extreme (f x)) : Extreme (∑ x ∈ s, f x) := by
  classical
  induction s using Finset.induction_on with
  | empty => exact .inr (.inr Finset.sum_empty)
  | insert a s ha ih => rw [Finset.sum_insert ha]; exact extreme_add (h a) ih

/-- A product with the negative infinity is an infinity or zero. -/
theorem extreme_bot_mul (x : EReal) : Extreme (⊥ * x) := by
  rcases lt_trichotomy x 0 with h | h | h
  · exact .inr (.inl (EReal.bot_mul_of_neg h))
  · exact .inr (.inr (by rw [h, mul_zero]))
  · exact .inl (EReal.bot_mul_of_pos h)

/-- Divided by an infinity, anything is zero. -/
theorem div_infinite (x y : EReal) (h : y = ⊥ ∨ y = ⊤) : Ideal.div x y = 0 := by
  rcases h with rfl | rfl <;> simp [Ideal.div]

/-- The small constant of a range is positive. -/
theorem eps6_pos : (0 : EReal) < Spec.eps6 := by
  unfold Spec.eps6
  simp [Ideal.ofBits, Ideal.ieee, -EReal.coe_mul]

/-- A series of infinities and zeros is moved and scaled to zero throughout: its range is infinite, or it is zero. -/
theorem norm_extreme (s : Fin 32768 → EReal) (h : ∀ t, Extreme (s t)) (t : Fin 32768) : Spec.norm01 s t = 0 := by
  unfold Spec.norm01
  have add_eps (x : EReal) (hx : x = ⊥ ∨ x = ⊤) : x + Spec.eps6 = ⊥ ∨ x + Spec.eps6 = ⊤ := by
    rcases hx with rfl | rfl
    · exact .inl (EReal.bot_add _)
    · exact .inr (EReal.top_add_of_ne_bot (ne_bot_of_gt eps6_pos))
  by_cases hb : ∃ t, s t = ⊥
  · obtain ⟨u, hu⟩ := hb
    have : Spec.lo s = ⊥ := le_bot_iff.1 ((Finset.fold_min_le _).2 (.inr ⟨u, Finset.mem_univ _, hu.le⟩))
    refine div_infinite _ _ (add_eps _ ?_)
    rw [this, sub_eq_add_neg, EReal.neg_bot]
    by_cases hh : Spec.hi s = ⊥
    · exact .inl (by rw [hh, EReal.bot_add])
    · exact .inr (EReal.add_top_of_ne_bot hh)
  by_cases ht : ∃ t, s t = ⊤
  · obtain ⟨u, hu⟩ := ht
    have : Spec.hi s = ⊤ := top_le_iff.1 ((Finset.le_fold_max _).2 (.inr ⟨u, Finset.mem_univ _, hu.ge⟩))
    refine div_infinite _ _ (add_eps _ ?_)
    rw [this, sub_eq_add_neg]
    by_cases hh : -Spec.lo s = ⊥
    · exact .inl (by rw [hh, EReal.add_bot])
    · exact .inr (EReal.top_add_of_ne_bot hh)
  have z : ∀ u, s u = 0 := fun u =>
    ((h u).resolve_left fun e => hb ⟨u, e⟩).resolve_left fun e => ht ⟨u, e⟩
  have hl : Spec.lo s = 0 := le_antisymm ((Finset.fold_min_le _).2 (.inr ⟨t, Finset.mem_univ _, (z t).le⟩))
    ((Finset.le_fold_min _).2 ⟨le_top, fun u _ => (z u).ge⟩)
  have hh : Spec.hi s = 0 := le_antisymm ((Finset.fold_max_le _).2 ⟨bot_le, fun u _ => (z u).le⟩)
    ((Finset.le_fold_max _).2 (.inr ⟨t, Finset.mem_univ _, (z t).ge⟩))
  rw [hl, hh, z t, sub_zero, zero_add, Ideal.div, if_neg eps6_pos.ne', zero_mul]

/-- The kernel's mean over a half: the weights are divided by their total before the products are summed. Scaled to the
    unit interval it is the reference's, of an empty half too: there both series are infinities and zeros. -/
theorem norm_mixed (h : Fin 32768 → Fin 2048 → EReal) (w : Fin 2048 → EReal) (hw : Bits w) :
    Spec.norm01 (Spec.mixed h w) = Spec.norm01 (Spec.side h w) := by
  by_cases he : ∃ d, w d ≠ 0
  · obtain ⟨c, hc, e⟩ := bits_sum w hw he
    refine congrArg _ (funext fun t => ?_)
    unfold Spec.mixed Spec.side
    rw [e]
    exact scaled_sum _ _ c hc
  · have z : ∀ d, w d = 0 := fun d => not_not.1 fun hd => he ⟨d, hd⟩
    have zero : Ideal.div 0 0 = ⊥ := by simp [Ideal.div]
    funext t
    rw [norm_extreme, norm_extreme]
    · intro t
      refine .inl ?_
      unfold Spec.side
      simp only [z, mul_zero, Finset.sum_const_zero, zero]
    · intro t
      refine extreme_sum _ _ fun d => ?_
      simp only [z, Finset.sum_const_zero, zero]
      exact extreme_bot_mul _

/-- The number of columns less the mask's total is the total of what is left. -/
theorem rest_eq (q : Fin 2048 → BitVec 1) :
    ((2048 : ℝ) : EReal) - ∑ y, Spec.weight (q y) = ∑ y, (1 - Spec.weight (q y)) := by
  have e : ∑ y, Spec.weight (q y) = ((∑ y, wt (q y) : ℝ) : EReal) := by
    rw [coe_sum]; exact Finset.sum_congr rfl fun y _ => weight_eq _
  have e' : ∑ y, (1 - Spec.weight (q y)) = ((∑ y, (1 - wt (q y)) : ℝ) : EReal) := by
    rw [coe_sum]; refine Finset.sum_congr rfl fun y _ => ?_
    rw [weight_eq, EReal.coe_sub, EReal.coe_one]
  rw [e, e', ← EReal.coe_sub, Finset.sum_sub_distrib]
  simp

/-! ## Sampled rows -/

/-- A sum of rows weighted by whether they are the row `n` is the row `n`. -/
theorem pick (v : Fin 100 → EReal) (n : ℕ) (hn : n < 100) :
    ∑ x : Fin 100, (if ((x.val : ℝ) : EReal) = ((n : ℝ) : EReal) then 1 else 0) * v x = v ⟨n, hn⟩ := by
  rw [Finset.sum_eq_single ⟨n, hn⟩]
  · simp
  · intro b _ hb
    rw [if_neg, zero_mul]
    rw [coe_nat_inj]
    exact fun h => hb (Fin.ext h)
  · simp

/-- A squared distance by the products of the rows. -/
theorem gram (a b : Fin 2048 → ℝ) :
    (∑ d, (a d : EReal) * (a d : EReal) + ∑ d, (b d : EReal) * (b d : EReal)) -
        ((2 : ℝ) : EReal) * ∑ d, (a d : EReal) * (b d : EReal) =
      ∑ d, ((a d : EReal) - (b d : EReal)) * ((a d : EReal) - (b d : EReal)) := by
  simp only [← EReal.coe_mul, ← EReal.coe_sub, ← coe_sum, ← EReal.coe_add]
  congr 1
  rw [Finset.mul_sum, ← Finset.sum_add_distrib, ← Finset.sum_sub_distrib]
  exact Finset.sum_congr rfl fun d _ => by ring

/-- Sixteen rows of which six weigh nothing. -/
theorem sum_first (f : Fin 16 → EReal) (h : ∀ x : Fin 16, ¬ x.val < 10 → f x = 0) :
    ∑ x, f x = ∑ x : Fin 10, f (Fin.castLE (by decide) x) := by
  have := Fin.sum_univ_add (a := 10) (b := 6) f
  rw [show ∑ x, f x = ∑ i : Fin (10 + 6), f i from rfl, this,
    Finset.sum_eq_zero (s := Finset.univ) (f := fun i : Fin 6 => f (Fin.natAdd 10 i))
      (fun i _ => h _ (by simp [Fin.natAdd])), add_zero]
  rfl

end Cert.Math

end
-- ==== Proof.KMem.lean ====
/- The second call's results of the memory alone: the total variance and the effective dimension. -/
module

public import proofs.«01_k».proof.Proof.Gen.KernelIdeal.Skeleton
public import proofs.«01_k».proof.Proof.Math
public import Idealize.ShloMosaic.Lib.Pointwise

@[expose] public section

set_option maxRecDepth 16384

noncomputable section

namespace Cert.KMem

open Idealize.ShloMosaic Cert.KernelIdeal Cert.KernelIdeal.Gen

variable (v0 : Vec Ideal S64x2048 .f32) (v1 : Vec Ideal S36x2048 .f32)

/-- The memory as the call puts it together. -/
def memv (r : Fin 100) (d : Fin 2048) : EReal :=
  if h : r.val < 64 then v0 (ix2 ⟨r.val, h⟩ d) else v1 (ix2 ⟨r.val - 64, by omega⟩ d)

/-- The memory: the new states, then the old rows from row 64 on. -/
theorem pay1_apply (r : Fin 100) (d : Fin 2048) : k1_pay1 v0 v1 (ix2 r d) = memv v0 v1 r d := by
  pointwise [k1_pay1]
  rfl

/-- The named constants' values: 1/100, -/
theorem inv100 : (Named.named κ "inv100" 0x3C23D70A#32 : Ideal .f32) = ((1 / 100 : ℝ) : EReal) :=
  (IdealRules.named_const.ideal_named_scalar _ _ _ _ rfl).trans (by norm_num)
/-- 1/99, -/
theorem inv99 : (Named.named κ "inv99" 0x3C257EB5#32 : Ideal .f32) = ((1 / 99 : ℝ) : EReal) :=
  (IdealRules.named_const.ideal_named_scalar _ _ _ _ rfl).trans (by norm_num)
/-- and 1/90. -/
theorem inv90 : (Named.named κ "inv90" 0x3C360B61#32 : Ideal .f32) = ((1 / 90 : ℝ) : EReal) :=
  (IdealRules.named_const.ideal_named_scalar _ _ _ _ rfl).trans (by norm_num)

/-- The columns' unbiased variances. -/
theorem pay2_apply (d : Fin 2048) : k1_pay2 v0 v1 (ix2 0 d) = Spec.var (memv v0 v1) d := by
  pointwise [k1_pay2]
  simp only [pay1_apply]
  erw [inv100, inv99]
  rfl

/-- The total variance. -/
theorem pay3_apply : k1_pay3 v0 v1 (ix2 0 0) = Spec.tv (memv v0 v1) := by
  pointwise [k1_pay3]
  exact Finset.sum_congr rfl fun d _ => pay2_apply v0 v1 d

/-- The effective dimension. -/
theorem pay4_apply : k1_pay4 v0 v1 (ix2 0 0) = Spec.eff (memv v0 v1) := by
  pointwise [k1_pay4]
  simp only [pay2_apply, pay3_apply]
  rfl

end Cert.KMem

end
-- ==== Proof.KDist.lean ====
/- The second call's mean distance of the sampled rows. -/
module

public import proofs.«01_k».proof.Proof.Gen.KernelIdeal.Skeleton
public import proofs.«01_k».proof.Proof.Math
public import Idealize.ShloMosaic.Lib.Pointwise
public import proofs.«01_k».proof.Proof.KMem

@[expose] public section

set_option maxRecDepth 16384

noncomputable section

namespace Cert.KDist

open Idealize.ShloMosaic Cert.KernelIdeal Cert.KernelIdeal.Gen

/-- The row number the one-hot matrix is built from: the sampled one, and 100 past the tenth. -/
def rowOf (s : Fin 10 → BitVec 32) (r : Fin 16) : EReal :=
  if h : r.val < 10 then (((s ⟨r.val, h⟩).toInt : ℝ) : EReal) else ((100 : ℝ) : EReal)

/-- The row numbers of the sixteen rows. -/
theorem pay5_apply (r : Fin 16) : (k1_pay5 : FVec Ideal S16x1 .f32) (ix2 r 0) = ((r.val : ℝ) : EReal) := by
  pointwise [k1_pay5]
  exact Math.sitofp_ofNat _ (by omega)

/-- Before any sample is written every row stands for row 100, which the memory doesn't have. -/
theorem pay6_apply (r : Fin 16) : (k1_pay6 : FVec Ideal S16x1 .f32) (ix2 r 0) = ((100 : ℝ) : EReal) := by
  pointwise [k1_pay6]
  exact Math.lit_hundred

/-- The first row's mark. -/
theorem pay7_apply (r : Fin 16) :
    (k1_pay7 (F := Ideal) : IVec S16x1 1) (ix2 r 0) = BitVec.ofBool (decide (((r.val : ℝ) : EReal) = 0)) := by
  pointwise [k1_pay7]
  simp only [pay5_apply]

/-- The ninth row's mark. -/
theorem pay10_apply (r : Fin 16) :
    (k1_pay10 (k1_pay5 (F := Ideal)) : IVec S16x1 1) (ix2 r 0) =
      BitVec.ofBool (decide (((r.val : ℝ) : EReal) = ((8 : ℝ) : EReal))) := by
  pointwise [k1_pay10]
  simp only [pay5_apply, Math.lit_eight]

/-- The first sample, as a number. -/
theorem pay8_apply (i0 : BitVec 32) (r : Fin 16) :
    (k1_pay8 (F := Ideal) i0) (ix2 r 0) = ((i0.toInt : ℝ) : EReal) := by
  pointwise [k1_pay8]

/-- A number is a numeral exactly when it is the numeral's number. -/
theorem cast_eq_numeral (a b : ℕ) [b.AtLeastTwo] : ((a : ℝ) = (OfNat.ofNat b : ℝ)) ↔ a = OfNat.ofNat b := by
  rw [← Nat.cast_ofNat, Nat.cast_inj]

/-- The chain of selects, at a row. -/
theorem chain (s : Fin 10 → BitVec 32) (r : Fin 16) :
    (if (k1_pay5 (F := Ideal)) (ix2 r 0) = Ideal.ofBits .f32 1091567616#32 then (((s 9).toInt : ℝ) : EReal)
      else Scalar.select ((k1_pay10 (k1_pay5 (F := Ideal))) (ix2 r 0)) ((((s 8).toInt : ℝ) : EReal))
        (k1_pay9 (F := Ideal) k1_pay5 k1_pay6 (k1_pay7 (F := Ideal)) (k1_pay8 (s 0)) (s 1) (s 2) (s 3) (s 4) (s 5) (s 6) (s 7)
          (ix2 r 0))) = rowOf s r := by
  have e9 : k1_pay9 (F := Ideal) k1_pay5 k1_pay6 (k1_pay7 (F := Ideal)) (k1_pay8 (s 0)) (s 1) (s 2) (s 3) (s 4) (s 5) (s 6) (s 7)
      (ix2 r 0) =
      if r.val = 7 then (((s 7).toInt : ℝ) : EReal) else if r.val = 6 then (((s 6).toInt : ℝ) : EReal) else
      if r.val = 5 then (((s 5).toInt : ℝ) : EReal) else if r.val = 4 then (((s 4).toInt : ℝ) : EReal) else
      if r.val = 3 then (((s 3).toInt : ℝ) : EReal) else if r.val = 2 then (((s 2).toInt : ℝ) : EReal) else
      if r.val = 1 then (((s 1).toInt : ℝ) : EReal) else if r.val = 0 then (((s 0).toInt : ℝ) : EReal) else
        ((100 : ℝ) : EReal) := by
    pointwise [k1_pay9]
    rw [pay5_apply, pay6_apply, pay7_apply, pay8_apply, Math.lit_two, Math.lit_three, Math.lit_four, Math.lit_five,
      Math.lit_six, Math.lit_seven]
    simp only [EReal.coe_eq_coe_iff, EReal.coe_eq_one, EReal.coe_eq_zero, cast_eq_numeral, Nat.cast_eq_one,
      Nat.cast_eq_zero]
    fin_cases r <;> simp [Scalar.select]
  rw [e9, pay10_apply, pay5_apply, Math.lit_nine]
  unfold rowOf
  simp only [EReal.coe_eq_coe_iff, cast_eq_numeral]
  fin_cases r <;> simp [Scalar.select]

variable (v2 : FVec Ideal S100x2048 .f32) (v34 v83 : FVec Ideal S16x1 .f32) (v85 : IVec S16x1 1) (v86 v92 : BitVec 32)

/-- A row the one-hot matrix takes out of the memory. -/
def taken (R : Fin 16 → EReal) (r : Fin 16) (d : Fin 2048) : EReal :=
  ∑ x : Fin 100, (if FloatOps.sitofp (F := Ideal) .f32 (BitVec.ofNat 32 x.val) = R r then 1 else 0) * v2 (ix2 x d)

/-- The products of two taken rows. -/
def dot (R : Fin 16 → EReal) (r c : Fin 16) : EReal := ∑ d, taken v2 R r d * taken v2 R c d

/-- The row numbers of the table of distances. -/
theorem pay11_apply (r c : Fin 16) : (k1_pay11 : FVec Ideal S16x16 .f32) (ix2 r c) = ((r.val : ℝ) : EReal) := by
  pointwise [k1_pay11]
  exact Math.sitofp_ofNat _ (by omega)

/-- Its column numbers. -/
theorem pay12_apply (r c : Fin 16) : (k1_pay12 : FVec Ideal S16x16 .f32) (ix2 r c) = ((c.val : ℝ) : EReal) := by
  pointwise [k1_pay12]
  exact Math.sitofp_ofNat _ (by omega)

/-- The squared distances: two squared lengths less twice the product. -/
theorem pay13_apply (R : Fin 16 → EReal)
    (hR : ∀ r, (if v34 (ix2 r 0) = Ideal.ofBits .f32 1091567616#32 then ((v92.toInt : ℝ) : EReal)
      else Scalar.select (v85 (ix2 r 0)) ((v86.toInt : ℝ) : EReal) (v83 (ix2 r 0))) = R r) (r c : Fin 16) :
    k1_pay13 v2 v34 v83 v85 v86 v92 (ix2 r c) =
      dot v2 R r r + dot v2 R c c - ((2 : ℝ) : EReal) * dot v2 R r c := by
  pointwise [k1_pay13]
  simp only [hR, pay11_apply, pay12_apply, Math.coe_nat_inj, Math.lit_two]
  have e (f : Fin 16 → EReal) (a : Fin 16) : ∑ x : Fin 16, f x * (if a.val = x.val then 1 else 0) = f a := by
    rw [Finset.sum_eq_single a] <;> simp
    exact fun b hb h => absurd (Fin.ext h).symm hb
  have e' (f : Fin 16 → EReal) (a : Fin 16) : ∑ x : Fin 16, f x * (if x.val = a.val then 1 else 0) = f a := by
    rw [Finset.sum_eq_single a] <;> simp
    exact fun b hb h => absurd (Fin.ext h) hb
  rw [e, e']
  rfl

/-- The mark of the first ten rows. -/
theorem pay14_apply (r c : Fin 16) : (k1_pay14 : FVec Ideal S16x16 .f32) (ix2 r c) = if r.val < 10 then 1 else 0 := by
  pointwise [k1_pay14]
  rw [pay11_apply, Math.lit_ten]
  congr 1
  rw [EReal.coe_lt_coe_iff]
  exact propext ⟨fun h => by exact_mod_cast h, fun h => by exact_mod_cast h⟩

/-- Only the first ten rows and columns weigh in the mean distance. -/
theorem pay15_apply (v15 : FVec Ideal S1x1 .f32) (d2 : FVec Ideal S16x16 .f32) :
    k1_pay15 v15 k1_pay12 d2 k1_pay14 (FloatOps.ofBits .f32 1092616192#32) (ix2 0 0) =
      Ideal.sqrt (v15 (ix2 0 0)) * ((∑ i : Fin 10, ∑ j : Fin 10,
        Ideal.sqrt (max (d2 (ix2 (Fin.castLE (by decide) i) (Fin.castLE (by decide) j))) 0)) *
          ((1 / 90 : ℝ) : EReal)) := by
  pointwise [k1_pay15]
  erw [KMem.inv90]
  have ten (c : Fin 16) : (((c.val : ℝ) : EReal) < Ideal.ofBits .f32 1092616192#32) = (c.val < 10) := by
    rw [Math.lit_ten, EReal.coe_lt_coe_iff]
    exact propext ⟨fun h => by exact_mod_cast h, fun h => by exact_mod_cast h⟩
  simp only [show FloatOps.ofBits (F := Ideal) .f32 1092616192#32 = Ideal.ofBits .f32 1092616192#32 from rfl,
    pay14_apply, pay12_apply, ten]
  rw [Math.sum_first _ (fun x hx => by simp [hx])]
  congr 2
  refine Finset.sum_congr rfl fun i _ => ?_
  rw [Math.sum_first _ (fun x hx => by simp [hx])]
  refine Finset.sum_congr rfl fun j _ => ?_
  simp

/-- The row the one-hot matrix takes is the sampled one. -/
theorem taken_eq (s : Fin 10 → BitVec 32) (n : Fin 10 → Fin 100) (hn : ∀ i, (s i).toInt = (n i).val) (i : Fin 10)
    (d : Fin 2048) : taken v2 (rowOf s) (Fin.castLE (by decide) i) d = v2 (ix2 (n i) d) := by
  have e : rowOf s (Fin.castLE (by decide) i) = (((n i).val : ℝ) : EReal) := by
    unfold rowOf
    rw [dif_pos (by simp)]
    show (((s i).toInt : ℝ) : EReal) = _
    rw [hn]; simp
  unfold taken
  rw [e, ← Math.pick (fun x => v2 (ix2 x d)) (n i).val (n i).isLt]
  exact Finset.sum_congr rfl fun x _ => by rw [Math.sitofp_ofNat _ (by omega)]

/-- The differentiation: the products of the sampled rows give their squared distances. -/
theorem diff_apply (v15 : FVec Ideal S1x1 .f32) (s : Fin 10 → BitVec 32) (n : Fin 10 → Fin 100)
    (hn : ∀ i, (s i).toInt = (n i).val) (hf : ∀ i d, ∃ a : ℝ, v2 (ix2 (n i) d) = (a : EReal)) :
    k1_pay15 v15 k1_pay12
      (k1_pay13 v2 k1_pay5
        (k1_pay9 k1_pay5 k1_pay6 (k1_pay7 (F := Ideal)) (k1_pay8 (s 0)) (s 1) (s 2) (s 3) (s 4) (s 5) (s 6) (s 7))
        (k1_pay10 (k1_pay5 (F := Ideal))) (s 8) (s 9)) k1_pay14 (FloatOps.ofBits .f32 1092616192#32) (ix2 0 0) =
      Ideal.sqrt (v15 (ix2 0 0)) * Spec.spread fun i d => v2 (ix2 (n i) d) := by
  rw [pay15_apply]
  unfold Spec.spread
  congr 2
  refine Finset.sum_congr rfl fun i _ => Finset.sum_congr rfl fun j _ => ?_
  rw [pay13_apply v2 _ _ _ _ _ (rowOf s) (chain s)]
  unfold dot
  simp only [taken_eq v2 s n hn]
  choose a ha using hf
  simp only [ha, Math.gram]
  rfl

end Cert.KDist

end
-- ==== Proof.KHist.lean ====
/- The second call's mutual informations: the bins of the projections, the joint histograms and their scores. -/
module

public import proofs.«01_k».proof.Proof.Gen.KernelIdeal.Skeleton
public import proofs.«01_k».proof.Proof.Math
public import Idealize.ShloMosaic.Lib.Pointwise

@[expose] public section

set_option maxRecDepth 16384

noncomputable section

namespace Cert.KHist

open Idealize.ShloMosaic Cert.KernelIdeal Cert.KernelIdeal.Gen

section Bins
variable (x : Vec Ideal S8x32768 .f32)

/-- A projection's bin, as the number the call carries. -/
theorem pay16_apply (r : Fin 8) (t : Fin 32768) :
    k1_pay16 x (ix2 r t) = ((Spec.bin (Spec.norm01 (fun t => x (ix2 r t)) t * ((10 : ℝ) : EReal)) : ℝ) : EReal) := by
  pointwise [k1_pay16]
  rw [Math.lit_nine, Math.lit_ten, Math.lit_top, Math.lit_bot]
  exact Math.floor_clip _

end Bins

section OneHot
variable (g : FVec Ideal S8x32768 .bf16) (v : FVec Ideal S10x1 .bf16) (a : Fin 10) (t : Fin 32768)

/-- The ten bins' numbers. -/
theorem pay17_apply : (k1_pay17 : FVec Ideal S10x1 .bf16) (ix2 a 0) = ((a.val : ℝ) : EReal) := by
  pointwise [k1_pay17]
  exact Math.sitofp_ofNat _ (by omega)

/-- The first partition's first series, repeated for each bin. -/
theorem pay18_apply (x : Vec Ideal S8x32768 .f32) : k1_pay18 x (ix2 a t) = k1_pay16 x (ix2 0 t) := by
  unfold k1_pay18
  generalize k1_pay16 x = g
  pointwise []

/-- Its second series. -/
theorem pay19_apply (x : Vec Ideal S8x32768 .f32) : k1_pay19 x (ix2 0 t) = k1_pay16 x (ix2 4 t) := by
  unfold k1_pay19
  generalize k1_pay16 x = g
  pointwise []

/-- The first series' one-hot rows. -/
theorem pay20_apply (w : FVec Ideal S10x32768 .bf16) :
    k1_pay20 v w (ix2 a t) = if w (ix2 a t) = v (ix2 a 0) then 1 else 0 := by
  pointwise [k1_pay20]

/-- The second series' one-hot rows. -/
theorem pay21_apply (w : FVec Ideal S1x32768 .bf16) :
    k1_pay21 v w (ix2 a t) = if w (ix2 0 t) = v (ix2 a 0) then 1 else 0 := by
  pointwise [k1_pay21]

/-- One-hot rows of the second partition's first series, -/
theorem pay22_apply : k1_pay22 g v (ix2 a t) = if g (ix2 1 t) = v (ix2 a 0) then 1 else 0 := by
  pointwise [k1_pay22]

/-- of its second series, -/
theorem pay23_apply : k1_pay23 g v (ix2 a t) = if g (ix2 5 t) = v (ix2 a 0) then 1 else 0 := by
  pointwise [k1_pay23]

/-- of the third partition's first series, -/
theorem pay24_apply : k1_pay24 g v (ix2 a t) = if g (ix2 2 t) = v (ix2 a 0) then 1 else 0 := by
  pointwise [k1_pay24]

/-- and of its second series. -/
theorem pay25_apply : k1_pay25 g v (ix2 a t) = if g (ix2 6 t) = v (ix2 a 0) then 1 else 0 := by
  pointwise [k1_pay25]

/-- The fourth partition's first series, repeated for each bin. -/
theorem pay26_apply : k1_pay26 g (ix2 a t) = g (ix2 3 t) := by
  pointwise [k1_pay26]

/-- Its second series. -/
theorem pay27_apply : k1_pay27 g (ix2 0 t) = g (ix2 7 t) := by
  pointwise [k1_pay27]

end OneHot

section Joint
variable (v171 : FVec Ideal S10x1 .bf16) (v182 v187 v198 v203 v214 v219 v222 : FVec Ideal S10x32768 .bf16)
  (v223 : FVec Ideal S1x32768 .bf16) (a b : Fin 10)

/-- The product's first block on the diagonal counts the first partition's pairs of bins. -/
theorem pay28_0 : k1_pay28 v171 v182 v187 v198 v203 v214 v219 v222 v223 (ix2 ⟨a.val, by omega⟩ ⟨b.val, by omega⟩) =
    ∑ t, v182 (ix2 a t) * v187 (ix2 b t) := by
  pointwise [k1_pay28]

/-- The second block counts the second's. -/
theorem pay28_1 :
    k1_pay28 v171 v182 v187 v198 v203 v214 v219 v222 v223 (ix2 ⟨10 + a.val, by omega⟩ ⟨10 + b.val, by omega⟩) =
      ∑ t, v198 (ix2 a t) * v203 (ix2 b t) := by
  pointwise [k1_pay28]

/-- The third block counts the third's. -/
theorem pay28_2 :
    k1_pay28 v171 v182 v187 v198 v203 v214 v219 v222 v223 (ix2 ⟨20 + a.val, by omega⟩ ⟨20 + b.val, by omega⟩) =
      ∑ t, v214 (ix2 a t) * v219 (ix2 b t) := by
  pointwise [k1_pay28]
  have h (a : Fin 10) : ¬ 20 + a.val < 10 := by omega
  have h1 (a : Fin 10) : ¬ 20 + a.val - 10 < 10 := by omega
  have h' (a : Fin 10) : 20 + a.val - 10 - 10 = a.val := by omega
  simp only [h, h1, h', a.isLt, b.isLt, dif_pos, dif_neg, Fin.eta, not_false_eq_true]

/-- The fourth block counts the fourth's. -/
theorem pay28_3 :
    k1_pay28 v171 v182 v187 v198 v203 v214 v219 v222 v223 (ix2 ⟨30 + a.val, by omega⟩ ⟨30 + b.val, by omega⟩) =
      ∑ t, (if v222 (ix2 a t) = v171 (ix2 a 0) then 1 else 0) * (if v223 (ix2 0 t) = v171 (ix2 b 0) then 1 else 0) := by
  pointwise [k1_pay28]
  have h (a : Fin 10) : ¬ 30 + a.val < 10 := by omega
  have h1 (a : Fin 10) : ¬ 30 + a.val - 10 < 10 := by omega
  have h2 (a : Fin 10) : ¬ 30 + a.val - 10 - 10 < 10 := by omega
  have h' (a : Fin 10) : 30 + a.val - 10 - 10 - 10 = a.val := by omega
  simp only [h, h1, h2, h', dif_neg, Fin.eta, not_false_eq_true]

/-- The first score is of the histogram's first block on the diagonal. -/
theorem pay29_apply : k1_pay29 v171 v182 v187 v198 v203 v214 v219 v222 v223 (ix2 0 0) =
    Spec.mi fun a b => ∑ t, v182 (ix2 a t) * v187 (ix2 b t) := by
  simp only [← pay28_0 v171 v182 v187 v198 v203 v214 v219 v222 v223]
  unfold k1_pay29
  generalize k1_pay28 v171 v182 v187 v198 v203 v214 v219 v222 v223 = J
  pointwise []
  rfl

/-- The second score is of the second block. -/
theorem pay31_apply : k1_pay31 (k1_pay30 v171 v182 v187 v198 v203 v214 v219 v222 v223) (ix2 0 0) =
    Spec.mi fun a b => ∑ t, v198 (ix2 a t) * v203 (ix2 b t) := by
  simp only [← pay28_1 v171 v182 v187 v198 v203 v214 v219 v222 v223]
  unfold k1_pay30
  generalize k1_pay28 v171 v182 v187 v198 v203 v214 v219 v222 v223 = J
  pointwise [k1_pay31]
  rfl

end Joint

section Scores
variable (J : FVec Ideal S40x40 .f32)

/-- The third score is of the third block. -/
theorem pay34_apply : k1_pay34 (k1_pay32 J) (k1_pay33 J) (FloatOps.ofBits .f32 786163455#32) (ix2 0 0) =
    Spec.mi fun a b => J (ix2 ⟨20 + a.val, by omega⟩ ⟨20 + b.val, by omega⟩) := by
  pointwise [k1_pay34, k1_pay33, k1_pay32]
  rfl

/-- The fourth score is of the fourth block. -/
theorem pay35_apply : k1_pay35 J (ix2 0 0) =
    Spec.mi fun a b => J (ix2 ⟨30 + a.val, by omega⟩ ⟨30 + b.val, by omega⟩) := by
  pointwise [k1_pay35]
  rfl

/-- The integration is the least of the four scores. -/
theorem pay36_apply (v267 v296 : FVec Ideal S1x1 .f32) (v305 v312 : FVec Ideal S10x10 .f32) (e : EReal) :
    k1_pay36 J v267 v296 v305 v312 e (ix2 0 0) =
      min (min (v267 (ix2 0 0)) (v296 (ix2 0 0))) (min (k1_pay34 v305 v312 e (ix2 0 0)) (k1_pay35 J (ix2 0 0))) := by
  unfold k1_pay36
  generalize k1_pay34 v305 v312 e = a
  generalize k1_pay35 J = b
  pointwise []

/-- The differentiation's share of the first result. -/
theorem pay37_apply (v : FVec Ideal S1x1 .f32) : k1_pay37 v (ix2 0 0) = Ideal.tanh (v (ix2 0 0)) := by
  pointwise [k1_pay37]

/-- The output row's slots. -/
theorem pay38_apply (v15 v32 v147 v267 v296 v325 v354 v357 v358 : FVec Ideal S1x1 .f32) (k : Fin 9) :
    k1_pay38 v15 v32 v147 v267 v296 v325 v354 v357 v358 (ix2 0 k) =
      ![v357 (ix2 0 0) + v358 (ix2 0 0), v147 (ix2 0 0), v32 (ix2 0 0), v15 (ix2 0 0), v357 (ix2 0 0), v267 (ix2 0 0),
        v296 (ix2 0 0), v325 (ix2 0 0), v354 (ix2 0 0)] k := by
  pointwise [k1_pay38]
  fin_cases k <;> rfl

end Scores

end Cert.KHist

end
-- ==== Proof.KFin.lean ====
/- The second call as one function of its blocks: the nine results. -/
module

public import proofs.«01_k».proof.Proof.KMem
public import proofs.«01_k».proof.Proof.KDist
public import proofs.«01_k».proof.Proof.KHist

@[expose] public section

set_option maxRecDepth 16384

noncomputable section

namespace Cert.KFin

open Idealize.ShloMosaic Cert.KernelIdeal Cert.KernelIdeal.Gen

/-- The products of two one-hot rows count the positions where both bins are the given ones. -/
theorem joint_eq (x y : Fin 32768 → EReal) (a b : Fin 10) :
    ∑ t, (if ((Spec.bin (x t * ((10 : ℝ) : EReal)) : ℝ) : EReal) = ((a.val : ℝ) : EReal) then (1 : EReal) else 0) *
        (if ((Spec.bin (y t * ((10 : ℝ) : EReal)) : ℝ) : EReal) = ((b.val : ℝ) : EReal) then 1 else 0) =
      Spec.joint x y a b := by
  refine Finset.sum_congr rfl fun t _ => ?_
  simp only [Math.coe_nat_inj]
  split <;> rename_i h1 <;> simp [h1]

/-- A partition's score, of the projections' rows. -/
def score (x1 : Vec Ideal S8x32768 .f32) (p q : Fin 8) : EReal :=
  Spec.mi (Spec.joint (Spec.norm01 fun t => x1 (ix2 p t)) (Spec.norm01 fun t => x1 (ix2 q t)))

/-- The nine results of the second call's blocks. -/
theorem fin_apply (x1 : Vec Ideal S8x32768 .f32) (x2 : Vec Ideal S64x2048 .f32) (x3 : Vec Ideal S36x2048 .f32)
    (i0 i1 i2 i3 i4 i5 i6 i7 i8 i9 : BitVec 32) (n : Fin 10 → Fin 100)
    (hn : ∀ i, (![i0, i1, i2, i3, i4, i5, i6, i7, i8, i9] i).toInt = (n i).val)
    (hf : ∀ i d, ∃ a : ℝ, KMem.memv x2 x3 (n i) d = (a : EReal)) (k : Fin 9) :
    k1_pay38 (k1_pay3 x2 x3) (k1_pay4 x2 x3)
      (k1_pay15 (k1_pay3 x2 x3) k1_pay12
        (k1_pay13 (k1_pay1 x2 x3) k1_pay5
          (k1_pay9 k1_pay5 k1_pay6 (k1_pay7 (F := Ideal)) (k1_pay8 i0) i1 i2 i3 i4 i5 i6 i7)
          (k1_pay10 (k1_pay5 (F := Ideal))) i8 i9)
        k1_pay14 (FloatOps.ofBits .f32 1092616192#32))
      (k1_pay29 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1)))
      (k1_pay31 (k1_pay30 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
      (k1_pay34 (k1_pay32 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (k1_pay33 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (FloatOps.ofBits .f32 786163455#32))
      (k1_pay35 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
      (k1_pay36 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1)))
        (k1_pay29 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1)))
        (k1_pay31 (k1_pay30 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (k1_pay32 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (k1_pay33 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (FloatOps.ofBits .f32 786163455#32))
      (k1_pay37 (k1_pay15 (k1_pay3 x2 x3) k1_pay12
        (k1_pay13 (k1_pay1 x2 x3) k1_pay5
          (k1_pay9 k1_pay5 k1_pay6 (k1_pay7 (F := Ideal)) (k1_pay8 i0) i1 i2 i3 i4 i5 i6 i7)
          (k1_pay10 (k1_pay5 (F := Ideal))) i8 i9)
        k1_pay14 (FloatOps.ofBits .f32 1092616192#32)))
      (ix2 0 k) =
    Spec.out (KMem.memv x2 x3) (fun i d => KMem.memv x2 x3 (n i) d)
      ![score x1 0 4, score x1 1 5, score x1 2 6, score x1 3 7] k := by
  have hd := KDist.diff_apply (k1_pay1 x2 x3) (k1_pay3 x2 x3) ![i0, i1, i2, i3, i4, i5, i6, i7, i8, i9] n hn
    (fun i d => by rw [KMem.pay1_apply]; exact hf i d)
  rw [KMem.pay3_apply] at hd
  simp only [KMem.pay1_apply] at hd
  change _ = Spec.diff (KMem.memv x2 x3) (fun i d => KMem.memv x2 x3 (n i) d) at hd
  have hd : k1_pay15 (k1_pay3 x2 x3) k1_pay12
        (k1_pay13 (k1_pay1 x2 x3) k1_pay5
          (k1_pay9 k1_pay5 k1_pay6 (k1_pay7 (F := Ideal)) (k1_pay8 i0) i1 i2 i3 i4 i5 i6 i7)
          (k1_pay10 (k1_pay5 (F := Ideal))) i8 i9)
        k1_pay14 (FloatOps.ofBits .f32 1092616192#32) (ix2 0 0) = _ := hd
  have j0 (a b : Fin 10) : ∑ t, k1_pay20 k1_pay17 (k1_pay18 x1) (ix2 a t) * k1_pay21 k1_pay17 (k1_pay19 x1) (ix2 b t) =
      Spec.joint (Spec.norm01 fun t => x1 (ix2 0 t)) (Spec.norm01 fun t => x1 (ix2 4 t)) a b := by
    simp only [KHist.pay20_apply, KHist.pay21_apply, KHist.pay17_apply, KHist.pay18_apply, KHist.pay19_apply,
      KHist.pay16_apply]
    exact joint_eq _ _ a b
  have j1 (a b : Fin 10) : ∑ t, k1_pay22 (k1_pay16 x1) k1_pay17 (ix2 a t) * k1_pay23 (k1_pay16 x1) k1_pay17 (ix2 b t) =
      Spec.joint (Spec.norm01 fun t => x1 (ix2 1 t)) (Spec.norm01 fun t => x1 (ix2 5 t)) a b := by
    simp only [KHist.pay22_apply, KHist.pay23_apply, KHist.pay17_apply, KHist.pay16_apply]
    exact joint_eq _ _ a b
  have j2 (a b : Fin 10) : ∑ t, k1_pay24 (k1_pay16 x1) k1_pay17 (ix2 a t) * k1_pay25 (k1_pay16 x1) k1_pay17 (ix2 b t) =
      Spec.joint (Spec.norm01 fun t => x1 (ix2 2 t)) (Spec.norm01 fun t => x1 (ix2 6 t)) a b := by
    simp only [KHist.pay24_apply, KHist.pay25_apply, KHist.pay17_apply, KHist.pay16_apply]
    exact joint_eq _ _ a b
  have j3 (a b : Fin 10) : ∑ t, (if k1_pay26 (k1_pay16 x1) (ix2 a t) = k1_pay17 (F := Ideal) (ix2 a 0) then (1 : EReal) else 0) *
        (if k1_pay27 (k1_pay16 x1) (ix2 0 t) = k1_pay17 (F := Ideal) (ix2 b 0) then 1 else 0) =
      Spec.joint (Spec.norm01 fun t => x1 (ix2 3 t)) (Spec.norm01 fun t => x1 (ix2 7 t)) a b := by
    simp only [KHist.pay26_apply, KHist.pay27_apply, KHist.pay17_apply, KHist.pay16_apply]
    exact joint_eq _ _ a b
  rw [KHist.pay38_apply, KHist.pay37_apply, KHist.pay36_apply, KHist.pay35_apply, KHist.pay34_apply, KHist.pay29_apply,
    KHist.pay31_apply, hd, KMem.pay3_apply, KMem.pay4_apply]
  simp only [KHist.pay28_2, KHist.pay28_3, j0, j1, j2, j3]
  rfl

/-- The same, the memory and the scores by what they are shown to be. -/
theorem fin_eq (x1 : Vec Ideal S8x32768 .f32) (x2 : Vec Ideal S64x2048 .f32) (x3 : Vec Ideal S36x2048 .f32)
    (i0 i1 i2 i3 i4 i5 i6 i7 i8 i9 : BitVec 32) (n : Fin 10 → Fin 100)
    (hn : ∀ i, (![i0, i1, i2, i3, i4, i5, i6, i7, i8, i9] i).toInt = (n i).val)
    (V : Fin 100 → Fin 2048 → EReal) (hm : KMem.memv x2 x3 = V) (hf : ∀ i d, ∃ a : ℝ, V (n i) d = (a : EReal))
    (q : Fin 4 → EReal) (hq : ![score x1 0 4, score x1 1 5, score x1 2 6, score x1 3 7] = q) (k : Fin 9) :
    k1_pay38 (k1_pay3 x2 x3) (k1_pay4 x2 x3)
      (k1_pay15 (k1_pay3 x2 x3) k1_pay12
        (k1_pay13 (k1_pay1 x2 x3) k1_pay5
          (k1_pay9 k1_pay5 k1_pay6 (k1_pay7 (F := Ideal)) (k1_pay8 i0) i1 i2 i3 i4 i5 i6 i7)
          (k1_pay10 (k1_pay5 (F := Ideal))) i8 i9)
        k1_pay14 (FloatOps.ofBits .f32 1092616192#32))
      (k1_pay29 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1)))
      (k1_pay31 (k1_pay30 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
      (k1_pay34 (k1_pay32 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (k1_pay33 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (FloatOps.ofBits .f32 786163455#32))
      (k1_pay35 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
      (k1_pay36 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1)))
        (k1_pay29 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1)))
        (k1_pay31 (k1_pay30 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (k1_pay32 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (k1_pay33 (k1_pay28 k1_pay17 (k1_pay20 k1_pay17 (k1_pay18 x1)) (k1_pay21 k1_pay17 (k1_pay19 x1))
        (k1_pay22 (k1_pay16 x1) k1_pay17) (k1_pay23 (k1_pay16 x1) k1_pay17) (k1_pay24 (k1_pay16 x1) k1_pay17)
        (k1_pay25 (k1_pay16 x1) k1_pay17) (k1_pay26 (k1_pay16 x1)) (k1_pay27 (k1_pay16 x1))))
        (FloatOps.ofBits .f32 786163455#32))
      (k1_pay37 (k1_pay15 (k1_pay3 x2 x3) k1_pay12
        (k1_pay13 (k1_pay1 x2 x3) k1_pay5
          (k1_pay9 k1_pay5 k1_pay6 (k1_pay7 (F := Ideal)) (k1_pay8 i0) i1 i2 i3 i4 i5 i6 i7)
          (k1_pay10 (k1_pay5 (F := Ideal))) i8 i9)
        k1_pay14 (FloatOps.ofBits .f32 1092616192#32)))
      (ix2 0 k) =
    Spec.out V (fun i d => V (n i) d) q k := by
  subst hm hq
  exact fin_apply x1 x2 x3 i0 i1 i2 i3 i4 i5 i6 i7 i8 i9 n hn hf k

end Cert.KFin

end
-- ==== Proof.KProj.lean ====
/- The first call's block: each history row's mean over either half of each partition. -/
module

public import proofs.«01_k».proof.Proof.Gen.KernelIdeal.Skeleton
public import proofs.«01_k».proof.Proof.Math
public import Idealize.ShloMosaic.Lib.Pointwise

@[expose] public section

set_option maxRecDepth 16384

noncomputable section

namespace Cert.KProj

open Idealize.ShloMosaic Cert.KernelIdeal Cert.KernelIdeal.Gen

/-- One row of the block, of masks given by their bits. -/
theorem pay1_apply (v0 : Vec Ideal S4x2048 .i32) (h : Vec Ideal S1024x2048 .f32) (M : Fin 4 → Fin 2048 → BitVec 1)
    (hM : ∀ p d, v0 (ix2 p d) = BitVec.setWidth 32 (M p d)) (r : Fin 8) (t : Fin 1024) :
    k0_pay1 v0 h (ix2 r t) =
      if hr : r.val < 4 then
        ∑ d, Ideal.div (Spec.weight (M ⟨r.val, hr⟩ d)) (∑ d, Spec.weight (M ⟨r.val, hr⟩ d)) * h (ix2 t d)
      else ∑ d, Ideal.div (1 - Spec.weight (M ⟨r.val - 4, by omega⟩ d))
        (∑ d, (1 - Spec.weight (M ⟨r.val - 4, by omega⟩ d))) * h (ix2 t d) := by
  pointwise [k0_pay1]
  simp only [hM, Math.weight_word, Math.lit_columns]
  by_cases hr : r.val < 4
  · simp only [dif_pos hr]
  · simp only [dif_neg hr]
    rw [← Math.rest_eq]

end Cert.KProj

end
-- ==== Proof.KLd.lean ====
/- The loads of the second call that are a part of a block. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KLd

open Idealize.ShloMosaic Cert.KernelIdeal Cert.KernelIdeal.Gen

/-- The part of the memory below the rows written. -/
theorem rows (x : Vec Ideal S100x2048 .f32) (r : Fin 36) (d : Fin 2048) :
    View.ld x (Rect.unit ![64, 0] ![36, 2048] inb_S100x2048_S36x2048_64_0) (ix2 r d) = x (ix2 ⟨64 + r.val, by omega⟩ d) := by
  pointwise []

/-- One word of the sampled rows' numbers. -/
theorem word (x : Vec Ideal S10 .i32) (k : ℕ) (hk : k < 10) (inb) (h) :
    View.ld x (Rect.unit (s := S10) ![k] ![1] inb) (Shape.Idx.first h) = x (ix1 ⟨k, hk⟩) := by
  show x _ = x _
  congr 1
  funext a
  apply Fin.ext
  fin_cases a
  rfl

end Cert.KLd
end
-- ==== Proof.KVal.lean ====
/- The kernel's result array, read off the last boundary, as the specification of the launch's arguments. -/
module

public import proofs.«01_k».proof.Proof.KRun
public import proofs.«01_k».proof.Proof.KFin
public import proofs.«01_k».proof.Proof.KProj
public import proofs.«01_k».proof.Proof.KLd
public import Idealize.ShloMosaic.Lib.Pipeline.ValueKit
public import Idealize.ShloMosaic.Lib.StableHlo.ReadAt
public import Idealize.ShloMosaic.Lib.Pointwise
public import Idealize.ShloMosaic.Lib.Pipeline.ReadBack

@[expose] public section

set_option maxRecDepth 16384
set_option maxHeartbeats 1000000

noncomputable section

namespace Cert.KVal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg) (c : Dev nD)

/-- The new states. -/
abbrev st (r : Fin 64) (d : Fin 2048) : EReal := m ((c.tc : Thread nD τ).loc main_arg0) (ix2 r d)
/-- The old memory. -/
abbrev sm (r : Fin 100) (d : Fin 2048) : EReal := m ((c.tc : Thread nD τ).loc main_arg1) (ix2 r d)
/-- The history. -/
abbrev hist (t : Fin 32768) (d : Fin 2048) : EReal := m ((c.tc : Thread nD τ).loc main_arg2) (ix2 t d)
/-- The partitions' bits. -/
abbrev mask (p : Fin 4) (d : Fin 2048) : BitVec 1 := m ((c.tc : Thread nD τ).loc main_arg3) (ix2 p d)
/-- The sampled rows' numbers. -/
abbrev pick (i : Fin 10) : BitVec 32 := m ((c.tc : Thread nD τ).loc main_arg4) (ix1 i)

/-- The masks as the first call takes them: each bit widened to a word. -/
theorem maskAt (p : Fin 4) (d : Fin 2048) :
    W1 m ρ c (Proc.devRef .tc main_call0_v0) (ix2 p d) = BitVec.setWidth 32 (mask m c p d) := by
  after_reads_at

/-- The reshaped result is the second call's row. -/
theorem outAt (k : Fin 9) :
    W4 m ρ c (Proc.devRef .tc main_v0) (ix1 k) = W3 m ρ c (Proc.devRef .tc main_call0_v2) (ix2 0 k) := by
  after_reads_at

/-- The first call's windows: the masks whole, the history and the projections a block of 1024 rows per point. -/
theorem idx0 : ∀ t : Fin cfg0.N, win0_0.index t = ![0, 0] ∧ win0_1.index t = ![t.val, 0] ∧
    win0_2.index t = ![0, t.val] := by decide +kernel

/-- The second call's windows are whole arrays. -/
theorem idx1 : ∀ t : Fin cfg1.N, win1_0.index t = ![0] ∧ win1_1.index t = ![0, 0] ∧ win1_2.index t = ![0, 0] ∧
    win1_3.index t = ![0, 0] ∧ win1_4.index t = ![0, 0] := by decide +kernel

/-- The projections: each history row's mean over either half of each partition. -/
def projAt (r : Fin 8) (t : Fin 32768) : EReal :=
  if hr : r.val < 4 then Spec.mixed (hist m c) (fun d => Spec.weight (mask m c ⟨r.val, hr⟩ d)) t
  else Spec.mixed (hist m c) (fun d => 1 - Spec.weight (mask m c ⟨r.val - 4, by omega⟩ d)) t

/-- The projections depend on the numbers of their row and column alone. -/
theorem projAt_congr (r : Fin 8) (t : Fin 32768) (r' : Fin 8) (t' : Fin 32768) (hr : r.val = r'.val)
    (ht : t.val = t'.val) : projAt m c r t = projAt m c r' t' := by
  rw [Fin.ext hr, Fin.ext ht]

/-- The first call's block at a point: the projections of its 1024 history rows. -/
theorem projBlk (t : Fin cfg0.N) (ht : t.val < 32)
    (r : Fin 8) (x : Fin 1024) :
    k0_pay1 (iblk0 (V1 m ρ) c 0 t) (iblk0 (V1 m ρ) c 1 t) (ix2 r x) =
      projAt m c r ⟨t.val * 1024 + x.val, by omega⟩ := by
  have h0 (p : Fin 4) (d : Fin 2048) : iblk0 (V1 m ρ) c 0 t (ix2 p d) = BitVec.setWidth 32 (mask m c p d) := by
    rw [← maskAt m ρ c p d]
    blk_ext [iblk0, V1, (idx0 t).1]
  have h1 (x : Fin 1024) (d : Fin 2048) :
      iblk0 (V1 m ρ) c 1 t (ix2 x d) = hist m c ⟨t.val * 1024 + x.val, by omega⟩ d := by
    have : V1 m ρ c main_arg2 = m ((c.tc : Thread nD τ).loc main_arg2) := W1_args m ρ c _ (by decide)
    rw [hist, ← this]
    blk_ext [iblk0, V1, (idx0 t).2.1]
  refine (KProj.pay1_apply _ _ (mask m c) h0 r x).trans ?_
  simp only [h1]
  rfl

/-- The projections as the first call leaves them. -/
theorem projArr :
    (dat0 (V1 m ρ) c).arrAt 2 cfg0.N = fun i : S8x32768.Idx => projAt m c (i 0) (i 1) := by
  refine (dat0 (V1 m ρ) c).arrAt_eq_of_covers 2 _ (by decide +kernel) fun t hf y => ?_
  blk_simp
  rw [after0_2]
  frame_out
  have e : y = ix2 (y 0) (y 1) := by
    funext a; fin_cases a <;> rfl
  have ht : t.val < 32 := t.isLt
  have e0 : (y 0).val = (((cfg0.win 2).blk t).view.emb y 0).val := by
    blk_simp [(idx0 t).2.2]
  have e1 : t.val * 1024 + (y 1).val = (((cfg0.win 2).blk t).view.emb y 1).val := by
    blk_simp [(idx0 t).2.2]
  exact (congrArg (k0_pay1 (iblk0 (V1 m ρ) c 0 t) (iblk0 (V1 m ρ) c 1 t)) e).trans
    ((projBlk m ρ c t ht (y 0) (y 1)).trans (projAt_congr m c _ _ _ _ e0 e1))

/-- The nine results as the second call leaves them. -/
theorem outArr (n : Fin 10 → Fin 100) (hp : ∀ i, (pick m c i).toInt = (n i).val)
    (hf : ∀ i d, ∃ a : ℝ, Spec.mem (st m c) (sm m c) (n i) d = (a : EReal)) :
    (dat1 (V2 m ρ) c).arrAt 4 cfg1.N = fun i : S1x9.Idx => Spec.out (Spec.mem (st m c) (sm m c))
      (fun i d => Spec.mem (st m c) (sm m c) (n i) d)
      (fun p => Spec.part (hist m c) fun d => Spec.weight (mask m c p d)) (i 1) := by
  refine (dat1 (V2 m ρ) c).arrAt_eq_of_covers 4 _ (by decide +kernel) fun t hf' y => ?_
  blk_simp
  rw [after1_4]
  unfold outsAt1
  frame_out
  simp only [read_unread_whole]
  have e : y = ix2 (0 : Fin 1) (y 1 : Fin 9) := by
    funext a; fin_cases a
    · exact Subsingleton.elim (α := Fin 1) _ _
    · rfl
  have b0 (i : Fin 10) : iblk1 (V2 m ρ) c 0 t (ix1 i) = pick m c i := by
    have : V2 m ρ c main_arg4 = m ((c.tc : Thread nD τ).loc main_arg4) := W2_args m ρ c _ (by decide)
    rw [pick, ← this]
    blk_ext [iblk1, V2, (idx1 t).1]
  have b1 (p : Fin 8) (x : Fin 32768) : iblk1 (V2 m ρ) c 1 t (ix2 p x) = projAt m c p x := by
    have : V2 m ρ c main_call0_v1 = _ := (W2_arr m ρ c 2).trans (projArr m ρ c)
    trans V2 m ρ c main_call0_v1 (ix2 p x)
    · blk_ext [iblk1, V2, (idx1 t).2.1]
    · rw [this]; rfl
  have b2 (r : Fin 64) (d : Fin 2048) : iblk1 (V2 m ρ) c 2 t (ix2 r d) = st m c r d := by
    have : V2 m ρ c main_arg0 = m ((c.tc : Thread nD τ).loc main_arg0) := W2_args m ρ c _ (by decide)
    rw [st, ← this]
    blk_ext [iblk1, V2, (idx1 t).2.2.1]
  have b3 (r : Fin 100) (d : Fin 2048) : iblk1 (V2 m ρ) c 3 t (ix2 r d) = sm m c r d := by
    have : V2 m ρ c main_arg1 = m ((c.tc : Thread nD τ).loc main_arg1) := W2_args m ρ c _ (by decide)
    rw [sm, ← this]
    blk_ext [iblk1, V2, (idx1 t).2.2.2.1]
  have hm : KMem.memv (iblk1 (V2 m ρ) c 2 t)
      (View.ld (iblk1 (V2 m ρ) c 3 t) (Rect.unit ![64, 0] ![36, 2048] inb_S100x2048_S36x2048_64_0)) =
      Spec.mem (st m c) (sm m c) := by
    funext r d
    unfold KMem.memv Spec.mem
    by_cases h : r.val < 64
    · rw [dif_pos h, dif_pos h, b2]
    · rw [dif_neg h, dif_neg h]
      refine (KLd.rows (iblk1 (V2 m ρ) c 3 t) _ d).trans ((b3 _ d).trans ?_)
      exact congrArg (fun r => sm m c r d) (Fin.ext (show 64 + (r.val - 64) = r.val by omega))
  have hq : ![KFin.score (iblk1 (V2 m ρ) c 1 t) 0 4, KFin.score (iblk1 (V2 m ρ) c 1 t) 1 5,
      KFin.score (iblk1 (V2 m ρ) c 1 t) 2 6, KFin.score (iblk1 (V2 m ρ) c 1 t) 3 7] =
      fun p : Fin 4 => Spec.part (hist m c) fun d => Spec.weight (mask m c p d) := by
    funext p
    fin_cases p <;> exact (congrArg₂ (fun f g => Spec.mi (Spec.joint (Spec.norm01 f) (Spec.norm01 g)))
      (funext fun x => b1 _ x) (funext fun x => b1 _ x)).trans
      (congrArg₂ (fun f g => Spec.mi (Spec.joint f g)) (Math.norm_mixed _ _ (Math.bits_weight _))
        (Math.norm_mixed _ _ (Math.bits_rest (Math.bits_weight _))))
  have e1 : (y 1).val = (((cfg1.win 4).blk t).view.emb y 1).val := by
    blk_simp [(idx1 t).2.2.2.2]
  refine (congrArg _ e).trans ((KFin.fin_eq (iblk1 (V2 m ρ) c 1 t) (iblk1 (V2 m ρ) c 2 t) _ _ _ _ _ _ _ _ _ _ _ n ?_
    _ hm hf _ hq (y 1)).trans (congrArg _ (Fin.ext e1)))
  intro i
  refine .trans ?_ (hp i)
  fin_cases i
  · exact congrArg BitVec.toInt ((KLd.word (iblk1 (V2 m ρ) c 0 t) 0 (by omega) _ _).trans (b0 0))
  · exact congrArg BitVec.toInt ((KLd.word (iblk1 (V2 m ρ) c 0 t) 1 (by omega) _ _).trans (b0 1))
  · exact congrArg BitVec.toInt ((KLd.word (iblk1 (V2 m ρ) c 0 t) 2 (by omega) _ _).trans (b0 2))
  · exact congrArg BitVec.toInt ((KLd.word (iblk1 (V2 m ρ) c 0 t) 3 (by omega) _ _).trans (b0 3))
  · exact congrArg BitVec.toInt ((KLd.word (iblk1 (V2 m ρ) c 0 t) 4 (by omega) _ _).trans (b0 4))
  · exact congrArg BitVec.toInt ((KLd.word (iblk1 (V2 m ρ) c 0 t) 5 (by omega) _ _).trans (b0 5))
  · exact congrArg BitVec.toInt ((KLd.word (iblk1 (V2 m ρ) c 0 t) 6 (by omega) _ _).trans (b0 6))
  · exact congrArg BitVec.toInt ((KLd.word (iblk1 (V2 m ρ) c 0 t) 7 (by omega) _ _).trans (b0 7))
  · exact congrArg BitVec.toInt ((KLd.word (iblk1 (V2 m ρ) c 0 t) 8 (by omega) _ _).trans (b0 8))
  · exact congrArg BitVec.toInt ((KLd.word (iblk1 (V2 m ρ) c 0 t) 9 (by omega) _ _).trans (b0 9))

/-- The kernel's result. -/
theorem result (n : Fin 10 → Fin 100) (hp : ∀ i, (pick m c i).toInt = (n i).val)
    (hf : ∀ i d, ∃ a : ℝ, Spec.mem (st m c) (sm m c) (n i) d = (a : EReal)) (k : Fin 9) :
    W4 m ρ c (Proc.devRef .tc main_v0) (ix1 k) = Spec.out (Spec.mem (st m c) (sm m c))
      (fun i d => Spec.mem (st m c) (sm m c) (n i) d)
      (fun p => Spec.part (hist m c) fun d => Spec.weight (mask m c p d)) k := by
  rw [outAt]
  exact congrFun ((W3_arr m ρ c 4).trans (outArr m ρ c n hp hf)) (ix2 0 k)

end Cert.KVal
end
-- ==== Proof.ROps.lean ====
/- The reference's stages as functions of whole arrays, each read at an index. -/
module

public import proofs.«01_k».proof.Proof.Gen.ReferenceIdeal.Read
public import proofs.«01_k».proof.Proof.Math
public import Idealize.ShloMosaic.Lib.Pointwise
public import Idealize.ShloMosaic.Lib.Routing.OpsPair

@[expose] public section

set_option maxRecDepth 16384

noncomputable section

namespace Cert.ROps

open Idealize.ShloMosaic Cert.ReferenceIdeal Cert.ReferenceIdeal.Gen

/-- A history row's mean over the columns of a weight array. -/
def side (h : FVec Ideal S32768x2048 .f32) (w : FVec Ideal S2048 .f32) : FVec Ideal S32768 .f32 :=
  Host.divf (Host.dotGeneral dot_S32768x2048_S2048_S32768_1_0_0_n_n_n none h w)
    (broadcastInDim S32768 ![] bcast_S_S32768
      (Host.reduceAdd w (constant S_ .f32 0x00000000#32) reducesTo_S2048_S_d0 h_S_))

/-- The weights of the other columns. -/
def rest (w : FVec Ideal S2048 .f32) : FVec Ideal S2048 .f32 :=
  subf (broadcastInDim S2048 ![] bcast_S_S2048 (constant S_ .f32 0x3F800000#32)) w

/-- A series moved and scaled to the unit interval. -/
def norm (s : FVec Ideal S32768 .f32) : FVec Ideal S32768 .f32 :=
  Host.divf (subf s (broadcastInDim S32768 ![] bcast_S_S32768
      (Host.reduce FloatOps.minimumf s (constant S_ .f32 0x7F800000#32) reducesTo_S32768_S_d0 h_S_)))
    (broadcastInDim S32768 ![] bcast_S_S32768 (addf
      (subf (Host.reduce FloatOps.maximumf s (constant S_ .f32 0xFF800000#32) reducesTo_S32768_S_d0 h_S_)
        (Host.reduce FloatOps.minimumf s (constant S_ .f32 0x7F800000#32) reducesTo_S32768_S_d0 h_S_))
      (constant S_ .f32 0x358637BD#32)))

/-- A series' bins as words. -/
def bins (s : FVec Ideal S32768 .f32) : IVec S32768 32 :=
  minsi (broadcastInDim S32768 ![] bcast_S_S32768 (id (constantI S_ 32 9#32)))
    (maxsi (broadcastInDim S32768 ![] bcast_S_S32768 (id (constantI S_ 32 0#32)))
      (fptosi 32 (mulf s (broadcastInDim S32768 ![] bcast_S_S32768 (constant S_ .f32 0x41200000#32)))))

/-- The cell of the flat histogram that a pair of bins falls in. -/
def cell (a b : IVec S32768 32) : IVec S32768 32 :=
  addi (muli a (broadcastInDim S32768 ![] bcast_S_S32768 (constantI S_ 32 10#32))) b

/-- The cell, 100 added to it where it is negative. -/
def wrapped (f : IVec S32768 32) : IVec S32768 32 :=
  select (cmpi .slt f (broadcastInDim S32768 ![] bcast_S_S32768 (constantI S_ 32 0#32)))
    (addi f (broadcastInDim S32768 ![] bcast_S_S32768 (constantI S_ 32 100#32))) f

/-- The flat histogram: ones added at the cells. -/
def hist (f : IVec S32768 32) : FVec Ideal S100 .f32 :=
  Host.scatterAdd scatter_S100_S32768x1_S32768_n_0_0_1
    (broadcastInDim S100 ![] bcast_S_S100 (constant S_ .f32 0x00000000#32))
    (broadcastInDim S32768x1 ![0] bcast_S32768_S32768x1_0 (wrapped f))
    (broadcastInDim S32768 ![] bcast_S_S32768 (constant S_ .f32 0x3F800000#32))

/-- The flat histogram as ten rows of ten. -/
def grid (H : FVec Ideal S100 .f32) : FVec Ideal S10x10 .f32 := shapeCast _ H shapeCasts_S100_S10x10

/-- A histogram divided by its total. -/
def prob (J : FVec Ideal S10x10 .f32) : FVec Ideal S10x10 .f32 :=
  Host.divf J (broadcastInDim S10x10 ![] bcast_S_S10x10
    (addf (Host.reduceAdd J (constant S_ .f32 0x00000000#32) reducesTo_S10x10_S_d0_1 h_S_)
      (constant S_ .f32 0x2EDBE6FF#32)))

/-- The products of the two margins. -/
def outer (P : FVec Ideal S10x10 .f32) : FVec Ideal S10x10 .f32 :=
  mulf
    (broadcastInDim S10x10 ![0, 1] bcast_S10x1_S10x10_0_1 (broadcastInDim S10x1 ![0] bcast_S10_S10x1_0
      (Host.reduceAdd P (constant S_ .f32 0x00000000#32) reducesTo_S10x10_S10_d1 h_S_)))
    (broadcastInDim S10x10 ![0, 1] bcast_S1x10_S10x10_0_1 (broadcastInDim S1x10 ![1] bcast_S10_S1x10_1
      (Host.reduceAdd P (constant S_ .f32 0x00000000#32) reducesTo_S10x10_S10_d0 h_S_)))

/-- The mutual information of a joint distribution. -/
def score (P : FVec Ideal S10x10 .f32) : FVec Ideal S_ .f32 :=
  maximumf (Host.reduceAdd (mulf P (Host.log (Host.divf
      (addf P (broadcastInDim S10x10 ![] bcast_S_S10x10 (constant S_ .f32 0x2EDBE6FF#32)))
      (addf (outer P) (broadcastInDim S10x10 ![] bcast_S_S10x10 (constant S_ .f32 0x2EDBE6FF#32))))))
      (constant S_ .f32 0x00000000#32) reducesTo_S10x10_S_d0_1 h_S_)
    (constant S_ .f32 0x00000000#32)

/-! ## Words -/

/-- A word clipped to 0 … 9 is the clipped number's word. -/
theorem clip_word (z : ℤ) (h : -2147483648 ≤ z) (h' : z ≤ 2147483647) :
    IntOp.minsi 9#32 (IntOp.maxsi 0#32 (BitVec.ofInt 32 z)) = BitVec.ofNat 32 (max 0 (min 9 z)).toNat := by
  have e : (BitVec.ofInt 32 z).toInt = z := by
    rw [BitVec.toInt_ofInt]; exact Int.bmod_eq_of_le (by omega) (by omega)
  have o : ∀ n : ℕ, n < 2 ^ 31 → (BitVec.ofNat 32 n).toInt = n := Math.toInt_ofNat
  unfold IntOp.minsi IntOp.maxsi
  have z0 : (0#32 : BitVec 32).toInt = 0 := rfl
  have z9 : (9#32 : BitVec 32).toInt = 9 := rfl
  by_cases h0 : z < 0
  · have h1 : (BitVec.ofInt 32 z).slt 0#32 = true := by rw [BitVec.slt_iff_toInt_lt, e, z0]; exact h0
    rw [if_pos h1, show (max 0 (min 9 z)).toNat = 0 by omega]; rfl
  · have h1 : ¬ (BitVec.ofInt 32 z).slt 0#32 = true := by rw [BitVec.slt_iff_toInt_lt, e, z0]; exact h0
    rw [if_neg h1]
    by_cases h9 : 9 < z
    · have h2 : (9#32 : BitVec 32).slt (BitVec.ofInt 32 z) = true := by rw [BitVec.slt_iff_toInt_lt, e, z9]; exact h9
      rw [if_pos h2, show (max 0 (min 9 z)).toNat = 9 by omega]
    · have h2 : ¬ (9#32 : BitVec 32).slt (BitVec.ofInt 32 z) = true := by rw [BitVec.slt_iff_toInt_lt, e, z9]; exact h9
      rw [if_neg h2]
      apply BitVec.eq_of_toInt_eq
      rw [e, o _ (by omega)]
      omega

/-- A float's word clipped to 0 … 9 is its bin's. -/
theorem clip_bin (y : EReal) :
    IntOp.minsi 9#32 (IntOp.maxsi 0#32 (FloatOps.fptosi (F := Ideal) (φ := .f32) 32 y)) = BitVec.ofNat 32 (Spec.bin y) := by
  show IntOp.minsi 9#32 (IntOp.maxsi 0#32 (Ideal.fptosi 32 y)) = _
  unfold Ideal.fptosi
  induction y with
  | bot => rfl
  | top => rfl
  | coe r =>
    rw [Math.bin_coe]
    have key : ∀ z : ℤ, max 0 (min 9 z) = max 0 (min 9 ⌊r⌋) →
        IntOp.minsi 9#32 (IntOp.maxsi 0#32 (BitVec.ofInt 32 (max (-2147483648) (min 2147483647 z)))) =
          BitVec.ofNat 32 (max 0 (min 9 ⌊r⌋)).toNat := fun z hz => by
      rw [clip_word _ (by omega) (by omega)]
      congr 2
      omega
    refine key (if 0 ≤ r then ⌊r⌋ else ⌈r⌉) ?_
    split
    · rfl
    · next hr =>
      have h1 : ⌊r⌋ < 0 := Int.floor_lt.2 (by push_cast; linarith)
      have h2 : ⌈r⌉ ≤ 0 := Int.ceil_le.2 (by push_cast; linarith)
      omega

/-- A word of two digits. -/
theorem cell_word (a b : ℕ) :
    IntOp.addi (IntOp.muli (BitVec.ofNat 32 a) 10#32) (BitVec.ofNat 32 b) = BitVec.ofNat 32 (a * 10 + b) := by
  unfold IntOp.addi IntOp.muli
  rw [show (10#32 : BitVec 32) = BitVec.ofNat 32 10 from rfl, ← BitVec.ofNat_mul, ← BitVec.ofNat_add]

/-! ## The stages -/

/-- The mean over a half of the columns. -/
theorem side_apply (h : FVec Ideal S32768x2048 .f32) (w : FVec Ideal S2048 .f32) (t : Fin 32768) :
    side h w (ix1 t) = Spec.side (fun t d => h (ix2 t d)) (fun d => w (ix1 d)) t := by
  pointwise [side]
  rfl

/-- The weights of the other half. -/
theorem rest_apply (w : FVec Ideal S2048 .f32) (d : Fin 2048) : rest w (ix1 d) = 1 - w (ix1 d) := by
  pointwise [rest]

/-- A series in the unit interval. -/
theorem norm_apply (s : FVec Ideal S32768 .f32) (t : Fin 32768) :
    norm s (ix1 t) = Spec.norm01 (fun t => s (ix1 t)) t := by
  pointwise [norm]
  rw [Math.lit_top, Math.lit_bot]
  rfl

/-- A series' bins: the whole part of ten times the value, kept between 0 and 9. -/
theorem bins_apply (s : FVec Ideal S32768 .f32) (t : Fin 32768) :
    bins s (ix1 t) = BitVec.ofNat 32 (Spec.bin (s (ix1 t) * ((10 : ℝ) : EReal))) := by
  pointwise [bins]
  rw [Math.lit_ten]
  exact clip_bin _

/-- Two bins' cell. -/
theorem cell_apply (f g : IVec S32768 32) (t : Fin 32768) (a b : ℕ) (hf : f (ix1 t) = BitVec.ofNat 32 a)
    (hg : g (ix1 t) = BitVec.ofNat 32 b) : cell f g (ix1 t) = BitVec.ofNat 32 (a * 10 + b) := by
  pointwise [cell]
  rw [hf, hg]
  exact cell_word a b

/-- A cell below 100 is not wrapped around. -/
theorem wrapped_apply (f : IVec S32768 32) (t : Fin 32768) (n : ℕ) (hn : n < 100) (hf : f (ix1 t) = BitVec.ofNat 32 n) :
    wrapped f (ix1 t) = BitVec.ofNat 32 n := by
  pointwise [wrapped]
  rw [hf]
  exact Routing.wrap_of_lt _ _ (by rw [BitVec.toNat_ofNat]; omega)

/-- An update lands at the entry its index word names. -/
theorem lands (idx : IVec S32768x1 32) (t : Fin 32768) (k : Fin 100) :
    scatter_S100_S32768x1_S32768_n_0_0_1.resultIdx? (ix1 t) idx = some (ix1 k) ↔ (idx (ix2 t 0)).toInt = (k.val : ℤ) := by
  rw [Routing.resultIdx?_eq_some]
  have hw : scatter_S100_S32768x1_S32768_n_0_0_1.window (ix1 t) 0 = 0 := by
    unfold ScatterDims.window
    rw [dif_neg (by decide)]
  have hs : scatter_S100_S32768x1_S32768_n_0_0_1.start (ix1 t) idx 0 = (idx (ix2 t 0)).toInt := by
    unfold ScatterDims.start
    rw [dif_pos (by decide)]
    refine congrArg (fun i => (idx i).toInt) (funext fun b => Fin.ext ?_)
    match b with
    | ⟨0, _⟩ => rfl
    | ⟨1, _⟩ => rfl
  constructor
  · intro h
    have := h 0
    rw [hw, hs] at this
    simpa using this
  · intro h a
    obtain rfl : a = 0 := Subsingleton.elim _ _
    rw [hw, hs, h]
    simp

/-- The histogram counts, in each cell, the times whose cell it is. -/
theorem hist_apply (f : IVec S32768 32) (n : Fin 32768 → ℕ) (hn : ∀ t, n t < 100)
    (hf : ∀ t, f (ix1 t) = BitVec.ofNat 32 (n t)) (k : Fin 100) :
    hist f (ix1 k) = ∑ t, if n t = k.val then (1 : EReal) else 0 := by
  have hi : ∀ t : Fin 32768, broadcastInDim S32768x1 ![0] bcast_S32768_S32768x1_0 (wrapped f) (ix2 t 0) = BitVec.ofNat 32 (n t) :=
    fun t => by
      refine Eq.trans ?_ (wrapped_apply f t (n t) (hn t) (hf t))
      pointwise []
  have h0 : broadcastInDim S100 ![] bcast_S_S100 (constant (F := Ideal) S_ .f32 0x00000000#32) (ix1 k) = (0 : EReal) := by
    pointwise []
  have h1 : ∀ t : Fin 32768, broadcastInDim S32768 ![] bcast_S_S32768 (constant (F := Ideal) S_ .f32 0x3F800000#32) (ix1 t) = (1 : EReal) :=
    fun t => by pointwise []
  unfold hist
  refine (show _ = _ + ∑ j ∈ Finset.univ.filter (fun j => scatter_S100_S32768x1_S32768_n_0_0_1.resultIdx? j
    (broadcastInDim S32768x1 ![0] bcast_S32768_S32768x1_0 (wrapped f)) = some (ix1 k)),
      broadcastInDim S32768 ![] bcast_S_S32768 (constant (F := Ideal) S_ .f32 0x3F800000#32) j from rfl).trans ?_
  rw [h0, zero_add, Finset.sum_filter, sum_idx1]
  refine Finset.sum_congr rfl fun t _ => ?_
  rw [h1]
  refine if_congr ?_ rfl rfl
  rw [lands, hi, Math.toInt_ofNat _ (by have := hn t; omega)]
  omega

/-- The histogram as a table. -/
theorem grid_apply (H : FVec Ideal S100 .f32) (a b : Fin 10) : grid H (ix2 a b) = H (ix1 ⟨a.val * 10 + b.val, by omega⟩) := by
  pointwise [grid]

/-- The table divided by its total. -/
theorem prob_apply (J : FVec Ideal S10x10 .f32) (a b : Fin 10) :
    prob J (ix2 a b) = Spec.prob (fun a b => J (ix2 a b)) a b := by
  pointwise [prob]
  rfl

/-- The table's mutual information. -/
theorem score_apply (J : FVec Ideal S10x10 .f32) : score (prob J) ix0 = Spec.mi (fun a b => J (ix2 a b)) := by
  have e := prob_apply J
  generalize prob J = P at e ⊢
  pointwise [score, outer]
  simp only [e]
  rfl

/-- A partition's mutual information as the reference computes it. -/
def info (h : FVec Ideal S32768x2048 .f32) (w : FVec Ideal S2048 .f32) : FVec Ideal S_ .f32 :=
  score (prob (grid (hist (cell (bins (norm (side h w))) (bins (norm (side h (rest w))))))))

/-- It is the mathematics' mutual information. -/
theorem info_apply (h : FVec Ideal S32768x2048 .f32) (w : FVec Ideal S2048 .f32) :
    info h w ix0 = Spec.part (fun t d => h (ix2 t d)) (fun d => w (ix1 d)) := by
  have sa : ∀ w : FVec Ideal S2048 .f32, (fun t => norm (side h w) (ix1 t)) =
      Spec.norm01 (Spec.side (fun t d => h (ix2 t d)) (fun d => w (ix1 d))) := fun w =>
    funext fun t => (norm_apply _ t).trans (congrArg (Spec.norm01 · t) (funext fun t => side_apply h w t))
  have sr : (fun d => rest w (ix1 d)) = fun d => 1 - w (ix1 d) := funext fun d => rest_apply w d
  unfold info Spec.part
  rw [score_apply]
  refine congrArg Spec.mi (funext fun a => funext fun b => ?_)
  rw [grid_apply]
  unfold Spec.joint
  rw [← sr, ← sa, ← sa]
  refine (hist_apply _ (fun t => Spec.bin (norm (side h w) (ix1 t) * ((10 : ℝ) : EReal)) * 10 +
    Spec.bin (norm (side h (rest w)) (ix1 t) * ((10 : ℝ) : EReal))) (fun t => ?_) (fun t => ?_) _).trans ?_
  · have := Math.bin_lt (norm (side h w) (ix1 t) * ((10 : ℝ) : EReal))
    have := Math.bin_lt (norm (side h (rest w)) (ix1 t) * ((10 : ℝ) : EReal))
    omega
  · exact cell_apply _ _ t _ _ (bins_apply _ t) (bins_apply _ t)
  · refine Finset.sum_congr rfl fun t _ => if_congr ?_ rfl rfl
    have := Math.bin_lt (norm (side h w) (ix1 t) * ((10 : ℝ) : EReal))
    have := Math.bin_lt (norm (side h (rest w)) (ix1 t) * ((10 : ℝ) : EReal))
    have := a.isLt
    have := b.isLt
    dsimp only
    omega

end Cert.ROps

end
-- ==== Proof.RMem.lean ====
/- The reference's results of the memory: the total variance, the effective dimension and the differentiation. -/
module

public import proofs.«01_k».proof.Proof.Gen.ReferenceIdeal.Read
public import proofs.«01_k».proof.Proof.Math
public import Idealize.ShloMosaic.Lib.Pointwise
public import Idealize.ShloMosaic.Lib.Routing.OpsPair
public import Idealize.ShloMosaic.Lib.Routing.Ops

@[expose] public section

set_option maxRecDepth 16384

noncomputable section

namespace Cert.RMem

open Idealize.ShloMosaic Cert.ReferenceIdeal Cert.ReferenceIdeal.Gen Cert.ReferenceIdeal.Read

variable (x0 : FVec Ideal S64x2048 .f32) (x1 : FVec Ideal S100x2048 .f32) (x4 : IVec S10 32)

/-- The memory after the write. -/
abbrev memv : Fin 100 → Fin 2048 → EReal := Spec.mem (fun r d => x0 (ix2 r d)) (fun r d => x1 (ix2 r d))

/-- The memory: the new states, then the old rows from row 64 on. -/
theorem v1_apply (r : Fin 100) (d : Fin 2048) : val_main_v1 (F := Ideal) x0 x1 (ix2 r d) = memv x0 x1 r d := by
  pointwise [val_main_v1, val_main_v0]
  unfold memv Spec.mem
  split
  · rfl
  · exact congrArg (fun r => x1 (ix2 r d)) (Fin.ext (by dsimp only; omega))

/-- The columns' unbiased variances. -/
theorem v2_apply (d : Fin 2048) : val_main_v2 (F := Ideal) x0 x1 (ix1 d) = Spec.var (memv x0 x1) d := by
  have e := v1_apply x0 x1
  unfold val_main_v2 val_main_call0_v12 val_main_call0_v11 val_main_call0_v9 val_main_call0_v6 val_main_call0_v5 val_main_call0_v4 val_main_call0_v3 val_main_call0_v1 val_main_call0_v0
  generalize val_main_v1 (F := Ideal) x0 x1 = g at e ⊢
  pointwise [val_main_call0_v2, val_main_call0_v10, val_main_call0_v8, val_main_call0_v7, val_main_c, val_main_call0_call0_v1, val_main_call0_call0_v0, val_main_call0_cst, val_main_call0_cst_0, val_main_call0_cst_1, val_main_call0_cst_2, val_main_call0_cst_3, val_main_call0_cst_4]
  simp only [e]
  rw [Math.lit_hundred, show (FloatOps.sitofp (F := Ideal) FTy.f32 1#32 : EReal) = ((1 : ℝ) : EReal) from
    (Math.sitofp_ofNat 1 (by norm_num)).trans (by norm_num), ← EReal.coe_sub,
    show (100 - 1 : ℝ) = 99 by norm_num, if_pos (by exact_mod_cast (by norm_num : (0 : ℝ) < 99)), Ideal.div_coe (by norm_num)]
  simp only [Ideal.div_coe (show (100 : ℝ) ≠ 0 by norm_num)]
  rfl

/-- The total variance. -/
theorem v3_apply : val_main_v3 (F := Ideal) x0 x1 ix0 = Spec.tv (memv x0 x1) := by
  have e := v2_apply x0 x1
  unfold val_main_v3
  generalize val_main_v2 (F := Ideal) x0 x1 = g at e ⊢
  pointwise [val_main_cst]
  exact Finset.sum_congr rfl fun d _ => e d

/-- What stands for a total variance that is not positive. -/
theorem one1 : val_main_call1_v0 (F := Ideal) ix0 = (1 : EReal) := by
  show val_main_cst_1 (F := Ideal) ix0 = _
  pointwise [val_main_cst_1]

/-- What stands for the effective dimension there. -/
theorem one2 : val_main_call2_v0 (F := Ideal) ix0 = (1 : EReal) := by
  show val_main_cst_6 (F := Ideal) ix0 = _
  pointwise [val_main_cst_6]

/-- The effective dimension. -/
theorem v13_apply : val_main_v13 (F := Ideal) x0 x1 ix0 = Spec.eff (memv x0 x1) := by
  have e := v2_apply x0 x1
  have e' := v3_apply x0 x1
  unfold val_main_v13 val_main_v8 val_main_v12 val_main_v11 val_main_v10 val_main_v9 val_main_v7 val_main_v6 val_main_v5 val_main_v4
  generalize val_main_v2 (F := Ideal) x0 x1 = g at e ⊢
  generalize val_main_v3 (F := Ideal) x0 x1 = g' at e' ⊢
  pointwise [val_main_cst_0, val_main_cst_1, val_main_cst_2, val_main_cst_3, val_main_cst_4, val_main_cst_5, val_main_cst_6]
  simp only [e, e', show val_main_call1_v0 (F := Ideal) ix0 = (1 : EReal) from one1, show val_main_call2_v0 (F := Ideal) ix0 = (1 : EReal) from one2]
  rfl

/-- A sampled row's number, which is not negative, is not wrapped around. -/
theorem v19_apply (i : Fin 10) (n : Fin 100) (h : (x4 (ix1 i)).toInt = (n.val : ℤ)) :
    val_main_v19 (F := Ideal) x4 (ix2 i 0) = BitVec.ofNat 32 n.val := by
  pointwise [val_main_v19, val_main_v18, val_main_v17, val_main_v16, val_main_v15, val_main_v14, val_main_c_7, val_main_c_8]
  have e : x4 (ix1 i) = BitVec.ofNat 32 n.val := by
    apply BitVec.eq_of_toInt_eq
    rw [h, Math.toInt_ofNat _ (by omega)]
  rw [e]
  exact Routing.wrap_of_lt _ _ (by rw [BitVec.toNat_ofNat]; omega)

/-- The sampled rows. -/
theorem v20_apply (i : Fin 10) (d : Fin 2048) (n : Fin 100) (h : (x4 (ix1 i)).toInt = (n.val : ℤ)) :
    val_main_v20 (F := Ideal) x0 x1 x4 (ix2 i d) = memv x0 x1 n d := by
  rw [← v1_apply]
  unfold val_main_v20
  have := v19_apply x4 i n h
  simp only [ix2_eq_valueIdx] at this ⊢
  exact Routing.gather_row _ rfl rfl rfl rfl rfl _ _ i d n this (by decide)

/-- The differentiation. -/
theorem v34_apply (n : Fin 10 → Fin 100) (h : ∀ i, (x4 (ix1 i)).toInt = ((n i).val : ℤ)) :
    val_main_v34 (F := Ideal) x0 x1 x4 ix0 = Spec.diff (memv x0 x1) (fun i d => memv x0 x1 (n i) d) := by
  have e := fun i d => v20_apply x0 x1 x4 i d (n i) (h i)
  have e' := v3_apply x0 x1
  unfold val_main_v34 val_main_v33 val_main_v32 val_main_v31 val_main_v30 val_main_v29 val_main_v27 val_main_v26 val_main_v25 val_main_v24 val_main_v23 val_main_v22 val_main_v21
  generalize val_main_v3 (F := Ideal) x0 x1 = g' at e' ⊢
  generalize val_main_v20 (F := Ideal) x0 x1 x4 = g at e ⊢
  pointwise [val_main_v28, val_main_cst_9, val_main_cst_10, val_main_cst_11, val_main_cst_12]
  simp only [e]
  rw [e', show Ideal.ofBits FTy.f32 1119092736#32 = ((90 : ℝ) : EReal) from Math.lit_ninety, Ideal.div_coe (by norm_num)]
  rfl

end Cert.RMem

end
-- ==== Proof.ROut.lean ====
/- The reference's four partitions, and its nine results put together. -/
module

public import proofs.«01_k».proof.Proof.ROps
public import proofs.«01_k».proof.Proof.RMem

@[expose] public section

set_option maxRecDepth 16384

noncomputable section

namespace Cert.ROut

open Idealize.ShloMosaic Cert.ReferenceIdeal Cert.ReferenceIdeal.Gen Cert.ReferenceIdeal.Read

variable (x0 : FVec Ideal S64x2048 .f32) (x1 : FVec Ideal S100x2048 .f32) (x2 : FVec Ideal S32768x2048 .f32)
  (x3 : IVec S4x2048 1) (x4 : IVec S10 32)

/-- A mask's bit as a float is its weight. -/
theorem weight_bit (q : BitVec 1) : (FloatOps.uitofp (F := Ideal) .f32 q : EReal) = Spec.weight q := by
  have h : q = 0#1 ∨ q = 1#1 := by revert q; decide
  rcases h with rfl | rfl
  · show (((0 : ℕ) : ℝ) : EReal) = _
    simp [Spec.weight]
  · show (((1 : ℕ) : ℝ) : EReal) = _
    simp [Spec.weight]

/-- The history as a function of its coordinates. -/
abbrev histv : Fin 32768 → Fin 2048 → EReal := fun t d => x2 (ix2 t d)
/-- A partition's weights. -/
abbrev wts (p : Fin 4) : Fin 2048 → EReal := fun d => Spec.weight (x3 (ix2 p d))

/-! ### The partitions -/

/-- The reference's chain from a partition's weights to its mutual information computes the mathematics'. -/
theorem info_eq (p : Fin 4) (w : FVec Ideal S2048 .f32) (h : ∀ d, w (ix1 d) = wts x3 p d) :
    ROps.info x2 w ix0 = Spec.part (histv x2) (wts x3 p) :=
  (ROps.info_apply x2 w).trans (congrArg (Spec.part (histv x2)) (funext h))

/-- Partition 0's weights. -/
theorem mask0 (d : Fin 2048) : val_main_v37 (F := Ideal) x3 (ix1 d) = wts x3 0 d := by
  pointwise [val_main_v37, val_main_v36, val_main_v35]
  exact weight_bit _

/-- Partition 1's weights. -/
theorem mask1 (d : Fin 2048) : val_main_v111 (F := Ideal) x3 (ix1 d) = wts x3 1 d := by
  pointwise [val_main_v111, val_main_v110, val_main_v109]
  exact weight_bit _

/-- Partition 2's weights. -/
theorem mask2 (d : Fin 2048) : val_main_v185 (F := Ideal) x3 (ix1 d) = wts x3 2 d := by
  pointwise [val_main_v185, val_main_v184, val_main_v183]
  exact weight_bit _

/-- Partition 3's weights. -/
theorem mask3 (d : Fin 2048) : val_main_v259 (F := Ideal) x3 (ix1 d) = wts x3 3 d := by
  pointwise [val_main_v259, val_main_v258, val_main_v257]
  exact weight_bit _

/-- Partition 0's mutual information. -/
theorem part0 : val_main_v108 (F := Ideal) x2 x3 ix0 = Spec.part (histv x2) (wts x3 0) :=
  have e : val_main_v108 (F := Ideal) x2 x3 = ROps.info x2 (val_main_v37 (F := Ideal) x3) := rfl
  (congrFun e ix0).trans (info_eq x2 x3 0 _ (mask0 x3))

/-- Partition 1's mutual information. -/
theorem part1 : val_main_v182 (F := Ideal) x2 x3 ix0 = Spec.part (histv x2) (wts x3 1) :=
  have e : val_main_v182 (F := Ideal) x2 x3 = ROps.info x2 (val_main_v111 (F := Ideal) x3) := rfl
  (congrFun e ix0).trans (info_eq x2 x3 1 _ (mask1 x3))

/-- Partition 2's mutual information. -/
theorem part2 : val_main_v256 (F := Ideal) x2 x3 ix0 = Spec.part (histv x2) (wts x3 2) :=
  have e : val_main_v256 (F := Ideal) x2 x3 = ROps.info x2 (val_main_v185 (F := Ideal) x3) := rfl
  (congrFun e ix0).trans (info_eq x2 x3 2 _ (mask2 x3))

/-- Partition 3's mutual information. -/
theorem part3 : val_main_v330 (F := Ideal) x2 x3 ix0 = Spec.part (histv x2) (wts x3 3) :=
  have e : val_main_v330 (F := Ideal) x2 x3 = ROps.info x2 (val_main_v259 (F := Ideal) x3) := rfl
  (congrFun e ix0).trans (info_eq x2 x3 3 _ (mask3 x3))

/-! ### The results -/

/-- The four partitions' mutual informations. -/
abbrev infos : Fin 4 → EReal := fun p => Spec.part (histv x2) (wts x3 p)

/-- The stacked mutual informations. -/
theorem all_apply (p : Fin 4) : val_main_v335 (F := Ideal) x2 x3 (ix1 p) = infos x2 x3 p := by
  have e0 := part0 x2 x3
  have e1 := part1 x2 x3
  have e2 := part2 x2 x3
  have e3 := part3 x2 x3
  unfold val_main_v335 val_main_v331 val_main_v332 val_main_v333 val_main_v334
  generalize val_main_v108 (F := Ideal) x2 x3 = g0 at e0 ⊢
  generalize val_main_v182 (F := Ideal) x2 x3 = g1 at e1 ⊢
  generalize val_main_v256 (F := Ideal) x2 x3 = g2 at e2 ⊢
  generalize val_main_v330 (F := Ideal) x2 x3 = g3 at e3 ⊢
  fin_cases p
  · pointwise []
    exact e0
  · pointwise []
    exact e1
  · pointwise []
    exact e2
  · pointwise []
    exact e3

/-- Their least, the integration. -/
theorem least_apply : val_main_v336 (F := Ideal) x2 x3 ix0 = Spec.least (infos x2 x3) := by
  have e := all_apply x2 x3
  unfold val_main_v336
  generalize val_main_v335 (F := Ideal) x2 x3 = g at e ⊢
  pointwise [val_main_cst_137]
  simp only [e]
  rw [Math.lit_top]
  unfold Spec.least
  rw [show (Finset.univ : Finset (Fin 4)) = {0, 1, 2, 3} from rfl]
  simp [min_assoc]

/-- The reference's nine results. -/
theorem result (n : Fin 10 → Fin 100) (h : ∀ i, (x4 (ix1 i)).toInt = ((n i).val : ℤ)) (k : Fin 9) :
    val_main_v347 (F := Ideal) x0 x1 x2 x3 x4 (ix1 k) =
      Spec.out (RMem.memv x0 x1) (fun i d => RMem.memv x0 x1 (n i) d) (infos x2 x3) k := by
  have e34 := RMem.v34_apply x0 x1 x4 n h
  have e13 := RMem.v13_apply x0 x1
  have e3 := RMem.v3_apply x0 x1
  have el := least_apply x2 x3
  have e := all_apply x2 x3
  unfold val_main_v347 val_main_v346 val_main_v341 val_main_v342 val_main_v343 val_main_v344 val_main_v345 val_main_v340 val_main_v339 val_main_v338 val_main_v337
  generalize val_main_v34 (F := Ideal) x0 x1 x4 = g34 at e34 ⊢
  generalize val_main_v13 (F := Ideal) x0 x1 = g13 at e13 ⊢
  generalize val_main_v3 (F := Ideal) x0 x1 = g3 at e3 ⊢
  generalize val_main_v336 (F := Ideal) x2 x3 = gl at el ⊢
  generalize val_main_v335 (F := Ideal) x2 x3 = g at e ⊢
  fin_cases k
  · pointwise [val_main_cst_138, val_main_cst_139]
    rw [el, e34]
    rfl
  · pointwise []
    exact e34
  · pointwise []
    exact e13
  · pointwise []
    exact e3
  · pointwise []
    exact el
  · pointwise []
    exact e 0
  · pointwise []
    exact e 1
  · pointwise []
    exact e 2
  · pointwise []
    exact e 3

end Cert.ROut

end
-- ==== Proof.Pre.lean ====
/- What the precondition says of the arguments. -/
module

public import proofs.«01_k».proof.Proof.Gen.Pre_proper
public import proofs.«01_k».proof.Proof.RMem
public import Idealize.ShloMosaic.Lib.Pointwise
public import Idealize.ShloMosaic.Lib.Routing.OpsOrder

@[expose] public section

set_option maxRecDepth 16384

noncomputable section

namespace Cert.Pre

open Idealize.ShloMosaic Cert.Pre_proper Cert.Pre_proper.Facts

variable (x0 : FVec Ideal S64x2048 .f32) (x1 : FVec Ideal S100x2048 .f32) (x2 : FVec Ideal S32768x2048 .f32)
  (x3 : IVec S4x2048 1) (x4 : IVec S10 32)

/-- A conjunction of bits is one exactly when every bit is. -/
theorem fold_and {ι : Type} [DecidableEq ι] (s : Finset ι) (p : ι → BitVec 1) :
    Finset.fold IntOp.andi (1#1) p s = 1#1 ↔ ∀ x ∈ s, p x = 1#1 := by
  have two : ∀ a b : BitVec 1, IntOp.andi a b = 1#1 ↔ a = 1#1 ∧ b = 1#1 := by decide
  induction s using Finset.induction_on with
  | empty => simp
  | insert a s ha ih =>
    rw [Finset.fold_insert ha]
    refine (two _ _).trans ((and_congr Iff.rfl ih).trans ?_)
    simp only [Finset.mem_insert, forall_eq_or_imp]

/-- A value whose magnitude is below the infinity is a real number. -/
theorem real_of_abs (a : EReal) (h : BitVec.ofBool (decide ((FloatOps.absf (F := Ideal) (φ := .f32) a : EReal) <
    Ideal.ofBits FTy.f32 2139095040#32)) = 1#1) : ∃ r : ℝ, a = (r : EReal) := by
  rw [Math.lit_top] at h
  have h' : (FloatOps.absf (F := Ideal) (φ := .f32) a : EReal) < ⊤ := by
    by_contra hn
    rw [decide_eq_false hn] at h
    exact absurd h (by decide)
  have h2 : max a (-a) < ⊤ := h'
  induction a with
  | bot => simp at h2
  | top => simp at h2
  | coe r => exact ⟨r, rfl⟩

/-- The samples are rows of the memory, and these rows are of real numbers. -/
def Says : Prop :=
  ∃ n : Fin 10 → Fin 100, (∀ i : Fin 10, (x4 (ix1 i)).toInt = ((n i).val : ℤ)) ∧
    ∀ i d, ∃ a : ℝ, Spec.mem (fun r d => x0 (ix2 r d)) (fun r d => x1 (ix2 r d)) (n i) d = (a : EReal)

/-- The two conditions, of the sampled rows as the reference reads them. -/
def both (g : FVec Ideal S10x2048 .f32) : IVec S_ 1 :=
  andi
    (Host.reduce IntOp.andi
      (andi (cmpi .sge x4 (broadcastInDim S10 ![] bcast_S_S10 (constantI S_ 32 0#32)))
        (cmpi .slt x4 (broadcastInDim S10 ![] bcast_S_S10 (constantI S_ 32 100#32))))
      (constantI S_ 1 1#1) reducesTo_S10_S_d0 h_S_)
    (Host.reduce IntOp.andi
      (cmpf .olt (Host.absf g) (broadcastInDim S10x2048 ![] bcast_S_S10x2048 (constant S_ .f32 0x7F800000#32)))
      (constantI S_ 1 1#1) reducesTo_S10x2048_S_d0_1 h_S_)

/-- The precondition is these two. -/
theorem fn_eq : Pre_proper.fn (F := Ideal) x0 x1 x2 x3 x4 =
    both x4 (ReferenceIdeal.Read.val_main_v20 (F := Ideal) x0 x1 x4) := rfl

/-- What the two conditions say. -/
def Both (g : FVec Ideal S10x2048 .f32) : Prop :=
  (∀ i : Fin 10, 0 ≤ (x4 (ix1 i)).toInt ∧ (x4 (ix1 i)).toInt < 100) ∧
    ∀ (i : Fin 10) (d : Fin 2048), ∃ a : ℝ, g (ix2 i d) = (a : EReal)

/-- The two conditions at one say it. -/
theorem both_says (g : FVec Ideal S10x2048 .f32) (h : both x4 g ix0 = 1#1) : Both x4 g := by
  revert h
  generalize hQ : Both x4 g = Q
  pointwise [both]
  subst hQ
  intro h
  have two : ∀ a b : BitVec 1, IntOp.andi a b = 1#1 ↔ a = 1#1 ∧ b = 1#1 := by decide
  simp only [two, fold_and] at h
  obtain ⟨hi, hg⟩ := h
  refine ⟨?_, fun i d => real_of_abs _ (hg (i, d) (Finset.mem_univ _))⟩
  intro i
  obtain ⟨h1, h2⟩ := hi i (Finset.mem_univ _)
  constructor
  · by_contra hc
    have : IntOp.cmpi .sge (x4 (ix1 i)) 0#32 = BitVec.ofBool ((0#32 : BitVec 32).sle (x4 (ix1 i))) := rfl
    rw [this, Bool.eq_false_iff.2 (fun hb : (0#32 : BitVec 32).sle (x4 (ix1 i)) = true => hc (BitVec.sle_iff_toInt_le.1 hb))] at h1
    exact absurd h1 (by decide)
  · by_contra hc
    have : IntOp.cmpi .slt (x4 (ix1 i)) 100#32 = BitVec.ofBool ((x4 (ix1 i)).slt 100#32) := rfl
    rw [this, Bool.eq_false_iff.2 (fun hb : (x4 (ix1 i)).slt 100#32 = true => hc (BitVec.slt_iff_toInt_lt.1 hb))] at h2
    exact absurd h2 (by decide)

/-- That is what the precondition says. -/
theorem unpack (h : Pre_proper.fn (F := Ideal) x0 x1 x2 x3 x4 ix0 = 1#1) : Says x0 x1 x4 := by
  obtain ⟨k, hg⟩ := both_says x4 _ ((congrFun (fn_eq x0 x1 x2 x3 x4) ix0).symm.trans h)
  have e : ∀ i : Fin 10, (x4 (ix1 i)).toInt = (((⟨(x4 (ix1 i)).toInt.toNat, by have := k i; omega⟩ : Fin 100)).val : ℤ) :=
    fun i => by
      have := k i
      show _ = (((x4 (ix1 i)).toInt.toNat : ℕ) : ℤ)
      omega
  refine ⟨_, e, fun i d => ?_⟩
  obtain ⟨a, ha⟩ := hg i d
  exact ⟨a, (RMem.v20_apply x0 x1 x4 i d _ (e i)).symm.trans ha⟩

end Cert.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_proper
public import proofs.«01_k».proof.Proof.KRun
public import proofs.«01_k».proof.Proof.KVal
public import proofs.«01_k».proof.Proof.ROut
public import proofs.«01_k».proof.Proof.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, its arguments end unchanged, and every counter is at zero: it has none. -/
theorem frameR : quiescent_ReferenceIdeal := fun m g _ =>
  (θ_run _ _ _).mono (fun r h => ⟨fun c => (h c).2, sem_eq_zero_of_no_sems (by decide) r.2⟩)
    (ReferenceIdeal.Value.run (F := Ideal) m g)

/-- The three constants are the rounded 1/100, 1/99 and 1/90. -/
theorem constants : preserves_Kernel_KernelIdeal :=
  ⟨IdealRules.named_const.statement KernelIdeal.κ "inv100" .f32 0x3C23D70A#32 _ rfl,
    IdealRules.named_const.statement KernelIdeal.κ "inv99" .f32 0x3C257EB5#32 _ rfl,
    IdealRules.named_const.statement KernelIdeal.κ "inv90" .f32 0x3C360B61#32 _ rfl⟩

/-- Kernel and reference compute the same nine results. -/
theorem same : algebraic_KernelIdeal_ReferenceIdeal_pre_proper := by
  intro m g m' g' hp ha
  refine ⟨fun c => KernelIdeal.Gen.W4 m g c (Proc.devRef .tc KernelIdeal.main_v0), KRun.run m g, ?_⟩
  refine (θ_run _ _ _).mono (fun r h c => ⟨?_, (h c).2⟩) (ReferenceIdeal.Value.run (F := Ideal) m' g')
  refine ((h c).1.trans (ReferenceIdeal.Read.val_main_v347_eq (F := Ideal) (StableHlo.launchContents m' c))).trans ?_
  obtain ⟨n, hi, hf⟩ := Pre.unpack _ _ _ _ _ (congrFun (hp c) ix0)
  obtain ⟨a0, a1, a2, a3, a4⟩ := ha c
  have key : ∀ (x0 : FVec Ideal ReferenceIdeal.S64x2048 .f32) (x1 : FVec Ideal ReferenceIdeal.S100x2048 .f32)
      (x2 : FVec Ideal ReferenceIdeal.S32768x2048 .f32) (x3 : IVec ReferenceIdeal.S4x2048 1) (x4 : IVec ReferenceIdeal.S10 32),
      x0 = m ((c.tc : Thread KernelIdeal.nD KernelIdeal.τ).loc KernelIdeal.main_arg0) →
      x1 = m ((c.tc : Thread KernelIdeal.nD KernelIdeal.τ).loc KernelIdeal.main_arg1) →
      x2 = m ((c.tc : Thread KernelIdeal.nD KernelIdeal.τ).loc KernelIdeal.main_arg2) →
      x3 = m ((c.tc : Thread KernelIdeal.nD KernelIdeal.τ).loc KernelIdeal.main_arg3) →
      x4 = m ((c.tc : Thread KernelIdeal.nD KernelIdeal.τ).loc KernelIdeal.main_arg4) →
      ReferenceIdeal.Read.val_main_v347 (F := Ideal) x0 x1 x2 x3 x4 =
        KernelIdeal.Gen.W4 m g c (Proc.devRef .tc KernelIdeal.main_v0) := by
    intro x0 x1 x2 x3 x4 e0 e1 e2 e3 e4
    subst e0 e1 e2 e3 e4
    funext j
    idx_vars j
    exact (ROut.result _ _ _ _ _ n hi j0).trans (KVal.result m g c n hi hf j0).symm
  exact key _ _ _ _ _ a0 a1 a2 a3 a4

/-- The whole claim. -/
theorem claim : Cert.Claim := ⟨Cert.Kernel.Gen.facts, Cert.KernelIdeal.Gen.facts, Cert.ReferenceIdeal.Gen.facts, Cert.Pre_proper.Gen.facts,
  fun m ρ _ => Cert.Kernel.Gen.frame m ρ, fun m ρ _ => Cert.KernelIdeal.Gen.frame m ρ, fun m ρ _ => Cert.KernelIdeal.Gen.frame m ρ,
  frameR, fun m ρ _ => frameR m ρ trivial, constants, same⟩

end Cert.Proof

end
